-- ==== Defs.lean ====
def Pre_Kernel [hPre_moves : Cert.Pre_moves.Facts] (m : (ℓ : Loc Cert.Kernel.nD Cert.Kernel.τ Cert.Kernel.sig) → Buf (Elt Bits) ℓ) : Prop :=
  ∀ c : Dev Cert.Kernel.nD,
    (Cert.Pre_moves.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_stays_Kernel [hPre_stays_Kernel : Cert.Pre_stays_Kernel.Facts] (m : (ℓ : Loc Cert.Kernel.nD Cert.Kernel.τ Cert.Kernel.sig) → Buf (Elt Bits) ℓ) : Prop :=
  ∀ c : Dev Cert.Kernel.nD,
    (Cert.Pre_stays_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_moves : Cert.Pre_moves.Facts] (m : (ℓ : Loc Cert.KernelIdeal.nD Cert.KernelIdeal.τ Cert.KernelIdeal.sig) → Buf (Elt Ideal) ℓ) : Prop :=
  ∀ c : Dev Cert.KernelIdeal.nD,
    (Cert.Pre_moves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_stays_Kernel [hPre_stays_Kernel : Cert.Pre_stays_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_stays_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_swaps_KernelIdeal [hPre_swaps_KernelIdeal : Cert.Pre_swaps_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_swaps_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swaps_ReferenceIdeal [hPre_swaps_ReferenceIdeal : Cert.Pre_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_stays_ReferenceIdeal [hPre_stays_ReferenceIdeal : Cert.Pre_stays_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stays_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_moves : Cert.Pre_moves.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_stays_Kernel [hKernel : Cert.Kernel.Facts] [hPre_stays_Kernel : Cert.Pre_stays_Kernel.Facts] : Prop :=
  ∀ (m : (ℓ : Loc Cert.Kernel.nD Cert.Kernel.τ Cert.Kernel.sig) → Buf (Elt Bits) ℓ) (g : Dev Cert.Kernel.nD → PrngReg), Pre_Kernel_stays_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_moves : Cert.Pre_moves.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_stays_Kernel [hKernelIdeal : Cert.KernelIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stays_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_swaps_KernelIdeal [hKernelIdeal : Cert.KernelIdeal.Facts] [hPre_swaps_KernelIdeal : Cert.Pre_swaps_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_swaps_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swaps_ReferenceIdeal [hReferenceIdeal : Cert.ReferenceIdeal.Facts] [hPre_swaps_ReferenceIdeal : Cert.Pre_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_stays_ReferenceIdeal [hReferenceIdeal : Cert.ReferenceIdeal.Facts] [hPre_stays_ReferenceIdeal : Cert.Pre_stays_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stays_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_swaps_KernelIdeal [hKernelIdeal : Cert.KernelIdeal.Facts] [hReferenceIdeal : Cert.ReferenceIdeal.Facts] [hPre_swaps_KernelIdeal : Cert.Pre_swaps_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_swaps_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![2, 1024, 1024]⟩ (Layout.meshBlock [2, 2, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_stays_Kernel [hKernelIdeal : Cert.KernelIdeal.Facts] [hReferenceIdeal : Cert.ReferenceIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stays_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![2, 1024, 1024]⟩ (Layout.meshBlock [2, 2, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_moves : Cert.Pre_moves.Facts) (hPre_stays_Kernel : Cert.Pre_stays_Kernel.Facts) (hPre_swaps_KernelIdeal : Cert.Pre_swaps_KernelIdeal.Facts) (hPre_swaps_ReferenceIdeal : Cert.Pre_swaps_ReferenceIdeal.Facts) (hPre_stays_ReferenceIdeal : Cert.Pre_stays_ReferenceIdeal.Facts),
    quiescent_Kernel (hKernel := hKernel) (hPre_moves := hPre_moves)
    ∧ quiescent_Kernel_pre_stays_Kernel (hKernel := hKernel) (hPre_stays_Kernel := hPre_stays_Kernel)
    ∧ quiescent_KernelIdeal (hKernelIdeal := hKernelIdeal) (hPre_moves := hPre_moves)
    ∧ quiescent_KernelIdeal_pre_stays_Kernel (hKernelIdeal := hKernelIdeal) (hPre_stays_Kernel := hPre_stays_Kernel)
    ∧ quiescent_KernelIdeal_pre_swaps_KernelIdeal (hKernelIdeal := hKernelIdeal) (hPre_swaps_KernelIdeal := hPre_swaps_KernelIdeal)
    ∧ quiescent_ReferenceIdeal (hReferenceIdeal := hReferenceIdeal)
    ∧ quiescent_ReferenceIdeal_pre_swaps_ReferenceIdeal (hReferenceIdeal := hReferenceIdeal) (hPre_swaps_ReferenceIdeal := hPre_swaps_ReferenceIdeal)
    ∧ quiescent_ReferenceIdeal_pre_stays_ReferenceIdeal (hReferenceIdeal := hReferenceIdeal) (hPre_stays_ReferenceIdeal := hPre_stays_ReferenceIdeal)
    ∧ preserves_Kernel_KernelIdeal
    ∧ algebraic_KernelIdeal_ReferenceIdeal_pre_swaps_KernelIdeal (hKernelIdeal := hKernelIdeal) (hReferenceIdeal := hReferenceIdeal) (hPre_swaps_KernelIdeal := hPre_swaps_KernelIdeal)
    ∧ algebraic_KernelIdeal_ReferenceIdeal_pre_stays_Kernel (hKernelIdeal := hKernelIdeal) (hReferenceIdeal := hReferenceIdeal) (hPre_stays_Kernel := hPre_stays_Kernel)
-- ==== Pre_moves.lean ====
abbrev S1x1024x1024 : Shape := ⟨3, ![1, 1024, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x1024x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .ne main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .ne main_v4 main_c_0
  let main_v6 : IVec S_ 1 := andi main_v2 main_v5
  main_v6
-- ==== Pre_stays_Kernel.lean ====
abbrev S1x1024x1024 : Shape := ⟨3, ![1, 1024, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x1024x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_stays_ReferenceIdeal.lean ====
abbrev S2x1024x1024 : Shape := ⟨3, ![2, 1024, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x1024x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_swaps_KernelIdeal.lean ====
abbrev S1x1024x1024 : Shape := ⟨3, ![1, 1024, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x1024x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .ne main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .ne main_v4 main_c_0
  let main_v6 : IVec S_ 1 := andi main_v2 main_v5
  let main_v7 : IVec S1 32 := (extractStridedSlice S1 ![0] · slices_S2_S1_0) main_arg1
  let main_v8 : IVec S_ 32 := shapeCast S_ main_v7 shapeCasts_S1_S_
  let main_v9 : IVec S1 32 := (extractStridedSlice S1 ![1] · slices_S2_S1_1) main_arg1
  let main_v10 : IVec S_ 32 := shapeCast S_ main_v9 shapeCasts_S1_S_
  let main_v11 : IVec S_ 1 := cmpi .sgt main_v8 main_v10
  let main_v12 : IVec S_ 1 := andi main_v6 main_v11
  main_v12
-- ==== Pre_swaps_ReferenceIdeal.lean ====
abbrev S2x1024x1024 : Shape := ⟨3, ![2, 1024, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x1024x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .ne main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .ne main_v4 main_c_0
  let main_v6 : IVec S_ 1 := andi main_v2 main_v5
  let main_v7 : IVec S1 32 := (extractStridedSlice S1 ![0] · slices_S2_S1_0) main_arg1
  let main_v8 : IVec S_ 32 := shapeCast S_ main_v7 shapeCasts_S1_S_
  let main_v9 : IVec S1 32 := (extractStridedSlice S1 ![1] · slices_S2_S1_1) main_arg1
  let main_v10 : IVec S_ 32 := shapeCast S_ main_v9 shapeCasts_S1_S_
  let main_v11 : IVec S_ 1 := cmpi .sgt main_v8 main_v10
  let main_v12 : IVec S_ 1 := andi main_v6 main_v11
  main_v12
-- ==== Kernel.lean ====
abbrev S1x1024x1024 : Shape := ⟨3, ![1, 1024, 1024]⟩
abbrev S2 : Shape := ⟨1, ![2]⟩
abbrev S4 : Shape := ⟨1, ![4]⟩
abbrev S1 : Shape := ⟨1, ![1]⟩
abbrev S_ : Shape := ⟨0, ![]⟩
abbrev S1x64x1024 : Shape := ⟨3, ![1, 64, 1024]⟩

abbrev nBuf : Space → Nat
  | .hbm => 3
  | .vmem => 2
  | .smem => 1
  | _ => 0

abbrev bufTy : (tb : Table) → Fin (tcTables nBuf tb) → BufTy
  | .hbm, ⟨0, _⟩ => ⟨S1x1024x1024, .f32⟩
  | .hbm, ⟨1, _⟩ => ⟨S2, .i32⟩
  | .hbm, ⟨2, _⟩ => ⟨S1x1024x1024, .f32⟩
  | .local _ .vmem, ⟨0, _⟩ => ⟨S1x1024x1024, .f32⟩
  | .local _ .vmem, ⟨1, _⟩ => ⟨S1x1024x1024, .f32⟩
  | .local _ .smem, ⟨0, _⟩ => ⟨S2, .i32⟩
  | _, _ => ⟨S1x1024x1024, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : Index := Scalar.indexCast v2
  ![v15.toNat]
def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_8 : BitVec 32 := 8#32
  let v18 : BitVec 32 := Scalar.muli v9 c8_i32_8
  let v19 : BitVec 32 := Scalar.addi c0_i32 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_9 : BitVec 32 := 4#32
  let v20 : BitVec 32 := Scalar.muli v5 c4_i32_9
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v22 : BitVec 32 := Scalar.muli v8 c1_i32_10
  let v23 : BitVec 32 := Scalar.addi v21 v22
  v23.toNat
def k0_dev2 (d0 : Dev nD) : Nat :=
  let c0_i32_13 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_12 : BitVec 32 := 8#32
  let v24 : BitVec 32 := Scalar.muli v2 c8_i32_12
  let v25 : BitVec 32 := Scalar.addi c0_i32_13 v24
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_14 : BitVec 32 := 4#32
  let v26 : BitVec 32 := Scalar.muli v10 c4_i32_14
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v28 : BitVec 32 := Scalar.muli v8 c1_i32_15
  let v29 : BitVec 32 := Scalar.addi v27 v28
  v29.toNat
def k0_dev3 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v30 : BitVec 32 := Scalar.muli v2 c8_i32_17
  let v31 : BitVec 32 := Scalar.addi c0_i32_18 v30
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v32 : BitVec 32 := Scalar.muli v5 c4_i32_19
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_4 : BitVec 32 := 2#32
  let v11 : BitVec 32 := Scalar.remsi v8 c2_i32_4
  let v13 : BitVec 32 := Scalar.muli c2_i32_6 v11
  let v14 : BitVec 32 := Scalar.subi v12 v13
  let c1_i32_20 : BitVec 32 := 1#32
  let v34 : BitVec 32 := Scalar.muli v14 c1_i32_20
  let v35 : BitVec 32 := Scalar.addi v33 v34
  v35.toNat
def k0_off2 (d0 : Dev nD) (c0_i32_25 : BitVec 32) : Fin 3 → Nat :=
  let c0_i32_32 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v44 : BitVec 32 := Scalar.muli v5 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let c256_i32 : BitVec 32 := 256#32
  let v45 : BitVec 32 := Scalar.muli v11 c256_i32
  let v46 : BitVec 32 := Scalar.addi v44 v45
  let v47 : BitVec 32 := Scalar.addi v46 c0_i32_25
  let c0_i32_33 : BitVec 32 := 0#32
  ![0, v47.toNat, 0]
def k0_dev4 (d0 : Dev nD) : Nat :=
  let c0_i32_29 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_28 : BitVec 32 := 8#32
  let v48 : BitVec 32 := Scalar.muli v9 c8_i32_28
  let v49 : BitVec 32 := Scalar.addi c0_i32_29 v48
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_30 : BitVec 32 := 4#32
  let v50 : BitVec 32 := Scalar.muli v5 c4_i32_30
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v52 : BitVec 32 := Scalar.muli v8 c1_i32_31
  let v53 : BitVec 32 := Scalar.addi v51 v52
  v53.toNat
def k0_dev5 (d0 : Dev nD) : Nat :=
  let c0_i32_41 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_40 : BitVec 32 := 8#32
  let v64 : BitVec 32 := Scalar.muli v9 c8_i32_40
  let v65 : BitVec 32 := Scalar.addi c0_i32_41 v64
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v66 : BitVec 32 := Scalar.muli v5 c4_i32_42
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v68 : BitVec 32 := Scalar.muli v8 c1_i32_43
  let v69 : BitVec 32 := Scalar.addi v67 v68
  v69.toNat
def k0_dev6 (d0 : Dev nD) : Nat :=
  let c0_i32_53 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_52 : BitVec 32 := 8#32
  let v80 : BitVec 32 := Scalar.muli v9 c8_i32_52
  let v81 : BitVec 32 := Scalar.addi c0_i32_53 v80
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_54 : BitVec 32 := 4#32
  let v82 : BitVec 32 := Scalar.muli v5 c4_i32_54
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v84 : BitVec 32 := Scalar.muli v8 c1_i32_55
  let v85 : BitVec 32 := Scalar.addi v83 v84
  v85.toNat
def k0_dev7 (d0 : Dev nD) : Nat :=
  let c0_i32_65 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_64 : BitVec 32 := 8#32
  let v96 : BitVec 32 := Scalar.muli v9 c8_i32_64
  let v97 : BitVec 32 := Scalar.addi c0_i32_65 v96
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_66 : BitVec 32 := 4#32
  let v98 : BitVec 32 := Scalar.muli v5 c4_i32_66
  let v99 : BitVec 32 := Scalar.addi v97 v98
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v100 : BitVec 32 := Scalar.muli v8 c1_i32_67
  let v101 : BitVec 32 := Scalar.addi v99 v100
  v101.toNat
def k0_dev8 (d0 : Dev nD) : Nat :=
  let c0_i32_88 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_87 : BitVec 32 := 8#32
  let v122 : BitVec 32 := Scalar.muli v2 c8_i32_87
  let v123 : BitVec 32 := Scalar.addi c0_i32_88 v122
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_89 : BitVec 32 := 4#32
  let v124 : BitVec 32 := Scalar.muli v10 c4_i32_89
  let v125 : BitVec 32 := Scalar.addi v123 v124
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_90 : BitVec 32 := 1#32
  let v126 : BitVec 32 := Scalar.muli v8 c1_i32_90
  let v127 : BitVec 32 := Scalar.addi v125 v126
  v127.toNat
def k0_dev9 (d0 : Dev nD) : Nat :=
  let c0_i32_101 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_100 : BitVec 32 := 8#32
  let v138 : BitVec 32 := Scalar.muli v2 c8_i32_100
  let v139 : BitVec 32 := Scalar.addi c0_i32_101 v138
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_102 : BitVec 32 := 4#32
  let v140 : BitVec 32 := Scalar.muli v5 c4_i32_102
  let v141 : BitVec 32 := Scalar.addi v139 v140
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_4 : BitVec 32 := 2#32
  let v11 : BitVec 32 := Scalar.remsi v8 c2_i32_4
  let v13 : BitVec 32 := Scalar.muli c2_i32_6 v11
  let v14 : BitVec 32 := Scalar.subi v12 v13
  let c1_i32_103 : BitVec 32 := 1#32
  let v142 : BitVec 32 := Scalar.muli v14 c1_i32_103
  let v143 : BitVec 32 := Scalar.addi v141 v142
  v143.toNat
def k0_dev10 (d0 : Dev nD) : Nat :=
  let c0_i32_124 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_123 : BitVec 32 := 8#32
  let v164 : BitVec 32 := Scalar.muli v2 c8_i32_123
  let v165 : BitVec 32 := Scalar.addi c0_i32_124 v164
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_125 : BitVec 32 := 4#32
  let v166 : BitVec 32 := Scalar.muli v10 c4_i32_125
  let v167 : BitVec 32 := Scalar.addi v165 v166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_126 : BitVec 32 := 1#32
  let v168 : BitVec 32 := Scalar.muli v8 c1_i32_126
  let v169 : BitVec 32 := Scalar.addi v167 v168
  v169.toNat
def k0_dev11 (d0 : Dev nD) : Nat :=
  let c0_i32_137 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_136 : BitVec 32 := 8#32
  let v180 : BitVec 32 := Scalar.muli v2 c8_i32_136
  let v181 : BitVec 32 := Scalar.addi c0_i32_137 v180
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_138 : BitVec 32 := 4#32
  let v182 : BitVec 32 := Scalar.muli v5 c4_i32_138
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_4 : BitVec 32 := 2#32
  let v11 : BitVec 32 := Scalar.remsi v8 c2_i32_4
  let v13 : BitVec 32 := Scalar.muli c2_i32_6 v11
  let v14 : BitVec 32 := Scalar.subi v12 v13
  let c1_i32_139 : BitVec 32 := 1#32
  let v184 : BitVec 32 := Scalar.muli v14 c1_i32_139
  let v185 : BitVec 32 := Scalar.addi v183 v184
  v185.toNat
def k0_dev12 (d0 : Dev nD) : Nat :=
  let c0_i32_160 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_159 : BitVec 32 := 8#32
  let v206 : BitVec 32 := Scalar.muli v2 c8_i32_159
  let v207 : BitVec 32 := Scalar.addi c0_i32_160 v206
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_161 : BitVec 32 := 4#32
  let v208 : BitVec 32 := Scalar.muli v10 c4_i32_161
  let v209 : BitVec 32 := Scalar.addi v207 v208
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_162 : BitVec 32 := 1#32
  let v210 : BitVec 32 := Scalar.muli v8 c1_i32_162
  let v211 : BitVec 32 := Scalar.addi v209 v210
  v211.toNat
def k0_dev13 (d0 : Dev nD) : Nat :=
  let c0_i32_173 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_172 : BitVec 32 := 8#32
  let v222 : BitVec 32 := Scalar.muli v2 c8_i32_172
  let v223 : BitVec 32 := Scalar.addi c0_i32_173 v222
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_174 : BitVec 32 := 4#32
  let v224 : BitVec 32 := Scalar.muli v5 c4_i32_174
  let v225 : BitVec 32 := Scalar.addi v223 v224
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_4 : BitVec 32 := 2#32
  let v11 : BitVec 32 := Scalar.remsi v8 c2_i32_4
  let v13 : BitVec 32 := Scalar.muli c2_i32_6 v11
  let v14 : BitVec 32 := Scalar.subi v12 v13
  let c1_i32_175 : BitVec 32 := 1#32
  let v226 : BitVec 32 := Scalar.muli v14 c1_i32_175
  let v227 : BitVec 32 := Scalar.addi v225 v226
  v227.toNat
def k0_dev14 (d0 : Dev nD) : Nat :=
  let c0_i32_196 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_195 : BitVec 32 := 8#32
  let v248 : BitVec 32 := Scalar.muli v2 c8_i32_195
  let v249 : BitVec 32 := Scalar.addi c0_i32_196 v248
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_197 : BitVec 32 := 4#32
  let v250 : BitVec 32 := Scalar.muli v10 c4_i32_197
  let v251 : BitVec 32 := Scalar.addi v249 v250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v252 : BitVec 32 := Scalar.muli v8 c1_i32_198
  let v253 : BitVec 32 := Scalar.addi v251 v252
  v253.toNat
def k0_dev15 (d0 : Dev nD) : Nat :=
  let c0_i32_209 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_208 : BitVec 32 := 8#32
  let v264 : BitVec 32 := Scalar.muli v2 c8_i32_208
  let v265 : BitVec 32 := Scalar.addi c0_i32_209 v264
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_210 : BitVec 32 := 4#32
  let v266 : BitVec 32 := Scalar.muli v5 c4_i32_210
  let v267 : BitVec 32 := Scalar.addi v265 v266
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_4 : BitVec 32 := 2#32
  let v11 : BitVec 32 := Scalar.remsi v8 c2_i32_4
  let v13 : BitVec 32 := Scalar.muli c2_i32_6 v11
  let v14 : BitVec 32 := Scalar.subi v12 v13
  let c1_i32_211 : BitVec 32 := 1#32
  let v268 : BitVec 32 := Scalar.muli v14 c1_i32_211
  let v269 : BitVec 32 := Scalar.addi v267 v268
  v269.toNat
def k0_off3 (d0 : Dev nD) (c0_i32_218 : BitVec 32) : Fin 3 → Nat :=
  let c0_i32_246 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_216 : BitVec 32 := 512#32
  let v276 : BitVec 32 := Scalar.muli v5 c512_i32_216
  let c1_i32_21 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v36 : BitVec 32 := Scalar.subi c1_i32_21 v11
  let c256_i32_217 : BitVec 32 := 256#32
  let v277 : BitVec 32 := Scalar.muli v36 c256_i32_217
  let v278 : BitVec 32 := Scalar.addi v276 v277
  let v279 : BitVec 32 := Scalar.addi v278 c0_i32_218
  let c0_i32_247 : BitVec 32 := 0#32
  ![0, v279.toNat, 0]
def k0_dev16 (d0 : Dev nD) : Nat :=
  let c0_i32_256 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_255 : BitVec 32 := 8#32
  let v322 : BitVec 32 := Scalar.muli v2 c8_i32_255
  let v323 : BitVec 32 := Scalar.addi c0_i32_256 v322
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_257 : BitVec 32 := 4#32
  let v324 : BitVec 32 := Scalar.muli v10 c4_i32_257
  let v325 : BitVec 32 := Scalar.addi v323 v324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_258 : BitVec 32 := 1#32
  let v326 : BitVec 32 := Scalar.muli v8 c1_i32_258
  let v327 : BitVec 32 := Scalar.addi v325 v326
  v327.toNat
def k0_dev17 (d0 : Dev nD) : Nat :=
  let c0_i32_279 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_278 : BitVec 32 := 8#32
  let v348 : BitVec 32 := Scalar.muli v2 c8_i32_278
  let v349 : BitVec 32 := Scalar.addi c0_i32_279 v348
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_280 : BitVec 32 := 4#32
  let v350 : BitVec 32 := Scalar.muli v10 c4_i32_280
  let v351 : BitVec 32 := Scalar.addi v349 v350
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v352 : BitVec 32 := Scalar.muli v8 c1_i32_281
  let v353 : BitVec 32 := Scalar.addi v351 v352
  v353.toNat
def k0_off4 (d0 : Dev nD) (c128_i32_236 : BitVec 32) : Fin 3 → Nat :=
  let c0_i32_292 : BitVec 32 := 0#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c512_i32_234 : BitVec 32 := 512#32
  let v300 : BitVec 32 := Scalar.muli v10 c512_i32_234
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let c256_i32_235 : BitVec 32 := 256#32
  let v301 : BitVec 32 := Scalar.muli v11 c256_i32_235
  let v302 : BitVec 32 := Scalar.addi v300 v301
  let v303 : BitVec 32 := Scalar.addi v302 c128_i32_236
  let c0_i32_293 : BitVec 32 := 0#32
  ![0, v303.toNat, 0]
def k0_dev18 (d0 : Dev nD) : Nat :=
  let c0_i32_302 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_301 : BitVec 32 := 8#32
  let v374 : BitVec 32 := Scalar.muli v2 c8_i32_301
  let v375 : BitVec 32 := Scalar.addi c0_i32_302 v374
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_303 : BitVec 32 := 4#32
  let v376 : BitVec 32 := Scalar.muli v5 c4_i32_303
  let v377 : BitVec 32 := Scalar.addi v375 v376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_4 : BitVec 32 := 2#32
  let v11 : BitVec 32 := Scalar.remsi v8 c2_i32_4
  let v13 : BitVec 32 := Scalar.muli c2_i32_6 v11
  let v14 : BitVec 32 := Scalar.subi v12 v13
  let c1_i32_304 : BitVec 32 := 1#32
  let v378 : BitVec 32 := Scalar.muli v14 c1_i32_304
  let v379 : BitVec 32 := Scalar.addi v377 v378
  v379.toNat
def k0_dev19 (d0 : Dev nD) : Nat :=
  let c0_i32_325 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_324 : BitVec 32 := 8#32
  let v400 : BitVec 32 := Scalar.muli v2 c8_i32_324
  let v401 : BitVec 32 := Scalar.addi c0_i32_325 v400
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_326 : BitVec 32 := 4#32
  let v402 : BitVec 32 := Scalar.muli v5 c4_i32_326
  let v403 : BitVec 32 := Scalar.addi v401 v402
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_4 : BitVec 32 := 2#32
  let v11 : BitVec 32 := Scalar.remsi v8 c2_i32_4
  let v13 : BitVec 32 := Scalar.muli c2_i32_6 v11
  let v14 : BitVec 32 := Scalar.subi v12 v13
  let c1_i32_327 : BitVec 32 := 1#32
  let v404 : BitVec 32 := Scalar.muli v14 c1_i32_327
  let v405 : BitVec 32 := Scalar.addi v403 v404
  v405.toNat
def k0_off5 (d0 : Dev nD) (c0_i32_374 : BitVec 32) : Fin 3 → Nat :=
  let c0_i32_381 : BitVec 32 := 0#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c512_i32_372 : BitVec 32 := 512#32
  let v452 : BitVec 32 := Scalar.muli v10 c512_i32_372
  let c1_i32_22 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v37 : BitVec 32 := Scalar.subi c1_i32_22 v11
  let c256_i32_373 : BitVec 32 := 256#32
  let v453 : BitVec 32 := Scalar.muli v37 c256_i32_373
  let v454 : BitVec 32 := Scalar.addi v452 v453
  let v455 : BitVec 32 := Scalar.addi v454 c0_i32_374
  let c0_i32_382 : BitVec 32 := 0#32
  ![0, v455.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x1024x1024 : Shape := ⟨3, ![2, 1024, 1024]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Mesh.lean ====
/-
# The exchange on the mesh: who talks to whom, and which rows travel

The sixteen devices sit at `(x, y, z)` on a 2 × 2 × 4 mesh, device `c` at `(c / 8, c / 4 % 2, c % 4)`. Each has three
neighbours: across x, across y, and within its pair along z. A device's array is cut into sixteen chunks of 64 rows; in
the exchange it sends sixteen transfers and receives sixteen, one for each chunk. This module names the neighbours, the
transfers' chunks, the device each chunk of the result comes from, and the chunks as views; everything in it is a finite
check over the mesh or a fact about rows.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.Exchange

open Cert.KernelIdeal Cert.KernelIdeal.Gen
open Idealize.ShloMosaic
open Idealize.ShloMosaic.TcCoe

/-! ## Neighbours -/

set_option backward.proofsInPublic true in
/-- The neighbour of device `c` across x (0), across y (1), within its pair along z (2). -/
def nbr (a : Fin 3) (c : Dev nD) : Dev nD :=
  ⟨(match a with
    | 0 => c.val + 8
    | 1 => if c.val / 4 % 2 = 0 then c.val + 4 else c.val + 12
    | 2 => if c.val % 2 = 0 then c.val + 1 else c.val + 15) % 16, Nat.mod_lt _ (by decide)⟩

/-- Being neighbours is mutual. -/
theorem nbr_nbr (a : Fin 3) (c : Dev nD) : nbr a (nbr a c) = c := by revert a c; decide +kernel

/-- Taking the neighbour along an axis permutes the mesh. -/
def flip (a : Fin 3) : Dev nD ≃ Dev nD := ⟨nbr a, nbr a, nbr_nbr a, nbr_nbr a⟩

/-- The devices the kernel's three barrier signals name, and those its transfers name, are the neighbours. -/
theorem dev1 (c : Dev nD) : (⟨k0_dev1 c, k0_dev1_lt c⟩ : Dev nD) = nbr 0 c := by revert c; decide +kernel
theorem dev2 (c : Dev nD) : (⟨k0_dev2 c, k0_dev2_lt c⟩ : Dev nD) = nbr 1 c := by revert c; decide +kernel
theorem dev3 (c : Dev nD) : (⟨k0_dev3 c, k0_dev3_lt c⟩ : Dev nD) = nbr 2 c := by revert c; decide +kernel
theorem dev4 (c : Dev nD) : (⟨k0_dev4 c, k0_dev4_lt c⟩ : Dev nD) = nbr 0 c := by revert c; decide +kernel
theorem dev5 (c : Dev nD) : (⟨k0_dev5 c, k0_dev5_lt c⟩ : Dev nD) = nbr 0 c := by revert c; decide +kernel
theorem dev6 (c : Dev nD) : (⟨k0_dev6 c, k0_dev6_lt c⟩ : Dev nD) = nbr 0 c := by revert c; decide +kernel
theorem dev7 (c : Dev nD) : (⟨k0_dev7 c, k0_dev7_lt c⟩ : Dev nD) = nbr 0 c := by revert c; decide +kernel
theorem dev8 (c : Dev nD) : (⟨k0_dev8 c, k0_dev8_lt c⟩ : Dev nD) = nbr 1 c := by revert c; decide +kernel
theorem dev9 (c : Dev nD) : (⟨k0_dev9 c, k0_dev9_lt c⟩ : Dev nD) = nbr 2 c := by revert c; decide +kernel
theorem dev10 (c : Dev nD) : (⟨k0_dev10 c, k0_dev10_lt c⟩ : Dev nD) = nbr 1 c := by revert c; decide +kernel
theorem dev11 (c : Dev nD) : (⟨k0_dev11 c, k0_dev11_lt c⟩ : Dev nD) = nbr 2 c := by revert c; decide +kernel
theorem dev12 (c : Dev nD) : (⟨k0_dev12 c, k0_dev12_lt c⟩ : Dev nD) = nbr 1 c := by revert c; decide +kernel
theorem dev13 (c : Dev nD) : (⟨k0_dev13 c, k0_dev13_lt c⟩ : Dev nD) = nbr 2 c := by revert c; decide +kernel
theorem dev14 (c : Dev nD) : (⟨k0_dev14 c, k0_dev14_lt c⟩ : Dev nD) = nbr 1 c := by revert c; decide +kernel
theorem dev15 (c : Dev nD) : (⟨k0_dev15 c, k0_dev15_lt c⟩ : Dev nD) = nbr 2 c := by revert c; decide +kernel
theorem dev16 (c : Dev nD) : (⟨k0_dev16 c, k0_dev16_lt c⟩ : Dev nD) = nbr 1 c := by revert c; decide +kernel
theorem dev17 (c : Dev nD) : (⟨k0_dev17 c, k0_dev17_lt c⟩ : Dev nD) = nbr 1 c := by revert c; decide +kernel
theorem dev18 (c : Dev nD) : (⟨k0_dev18 c, k0_dev18_lt c⟩ : Dev nD) = nbr 2 c := by revert c; decide +kernel
theorem dev19 (c : Dev nD) : (⟨k0_dev19 c, k0_dev19_lt c⟩ : Dev nD) = nbr 2 c := by revert c; decide +kernel

/-! ## Transfers -/

/-- The axis transfer `t` travels along: 0–3 cross x, 4–7 and 12–13 cross y, 8–11 and 14–15 go along z. -/
def axis : Fin 16 → Fin 3 := ![0, 0, 0, 0, 1, 1, 1, 1, 2, 2, 2, 2, 1, 1, 2, 2]

set_option backward.proofsInPublic true in
/-- The chunk device `c`'s transfer `t` carries, the same one at both ends: its home quarter's four chunks across x and
    then on to both other neighbours, then two of its z neighbour's across y, two of its y neighbour's along z. -/
def chunk (t : Fin 16) (c : Dev nD) : Fin 16 :=
  ⟨(if t.val < 12 then 8 * (c.val / 4 % 2) + 4 * (c.val % 2) + t.val % 4
    else if t.val < 14 then 8 * (c.val / 4 % 2) + 4 * (1 - c.val % 2) + (t.val - 12)
    else 8 * (1 - c.val / 4 % 2) + 4 * (c.val % 2) + (t.val - 12)) % 16, Nat.mod_lt _ (by decide)⟩

/-- The chunk that arrives on device `c` by transfer `t`. -/
def arrives (c : Dev nD) (t : Fin 16) : Fin 16 := chunk t (nbr (axis t) c)

/-- Every chunk arrives on a device by exactly one transfer. -/
theorem arrives_bijective (c : Dev nD) : Function.Bijective (arrives c) := by
  refine Finite.injective_iff_bijective.mp fun t t' h => ?_
  revert c t t'; decide +kernel

/-- The transfers into device `c`, matched to the chunks of its result. -/
def arrive (c : Dev nD) : Fin 16 ≃ Fin 16 := Equiv.ofBijective _ (arrives_bijective c)

set_option backward.proofsInPublic true in
/-- The device whose rows end up as chunk `q` of device `c`'s result: across x, in the column `q` names. -/
def srcDev (c : Dev nD) (q : Fin 16) : Dev nD :=
  ⟨(8 * (1 - c.val / 8) + 4 * (q.val / 8) + 2 * (c.val % 4 / 2) + q.val / 4 % 2) % 16, Nat.mod_lt _ (by decide)⟩

theorem srcDev_y (c : Dev nD) (q : Fin 16) : srcDev (nbr 1 c) q = srcDev c q := by revert c q; decide +kernel
theorem srcDev_z (c : Dev nD) (q : Fin 16) : srcDev (nbr 2 c) q = srcDev c q := by revert c q; decide +kernel
/-- What crosses x comes from the device that sends it. -/
theorem srcDev_x (c : Dev nD) (t : Fin 16) (ht : t.val < 4) : srcDev (nbr 0 c) (chunk t c) = c := by
  revert c t; decide +kernel
/-- Along y and z a device passes on what its neighbour is to hold as well. -/
theorem srcDev_axis (c : Dev nD) (t : Fin 16) (ht : 4 ≤ t.val) (q : Fin 16) : srcDev (nbr (axis t) c) q = srcDev c q := by
  revert c t q; decide +kernel
/-- The source of every chunk lies across x. -/
theorem srcDev_half (c : Dev nD) (q : Fin 16) : (srcDev c q).val / 8 = 1 - c.val / 8 := by revert c q; decide +kernel

/-! ## Chunks as views -/

/-- Rows `64 q` to `64 q + 63` lie in the array. -/
theorem chunk_inb (q : Fin 16) : ∀ a, (![0, 64 * q.val, 0] : Fin 3 → Nat) a + S1x64x1024.size a ≤ S1x1024x1024.size a := by
  revert q; decide

/-- Rows `64 q` to `64 q + 63`. -/
abbrev rows (q : Fin 16) : Rect S1x1024x1024 := Rect.unit (s := S1x1024x1024) ![0, 64 * q.val, 0] S1x64x1024.size (chunk_inb q)

abbrev xM : Memref sig .tc .vmem S1x1024x1024 .f32 := Memref.whole cc0_stg0_0
abbrev pM : Memref sig .tc .smem S2 .i32 := Memref.whole cc0_stg1_0
abbrev oM : Memref sig .tc .vmem S1x1024x1024 .f32 := Memref.whole cc0_stg2_0

/-- Chunk `q` of the argument, and of the result. -/
abbrev xch (q : Fin 16) : Memref sig .tc .vmem S1x64x1024 .f32 := xM.slice (rows q) (fun _ => rfl)
abbrev och (q : Fin 16) : Memref sig .tc .vmem S1x64x1024 .f32 := oM.slice (rows q) (fun _ => rfl)

/-- A slice of 64 rows at offset `off` is chunk `q` where `off` is its row. -/
theorem slice_eq (M : Memref sig .tc .vmem S1x1024x1024 .f32) {off : Fin 3 → Nat} {q : Fin 16} (h : off = ![0, 64 * q.val, 0])
    (p : ∀ a, off a + S1x64x1024.size a ≤ S1x1024x1024.size a) :
    M.slice (Rect.unit (s := S1x1024x1024) off S1x64x1024.size p) (fun _ => rfl) = M.slice (rows q) (fun _ => rfl) :=
  Memref.slice_unit_congr M h _ _ _ _

/-- The offsets the kernel computes are the transfers' chunks. -/
theorem off_home (c : Dev nD) (t : Fin 16) (ht : t.val < 12) :
    k0_off2 c (BitVec.ofNat 32 (64 * (t.val % 4))) = ![0, 64 * (chunk t c).val, 0] := by revert c t; decide +kernel
theorem off_y2 (c : Dev nD) (i : Fin 2) :
    k0_off3 c (BitVec.ofNat 32 (64 * i.val)) = ![0, 64 * (chunk ⟨12 + i.val, by omega⟩ c).val, 0] := by revert c i; decide +kernel
theorem off_z2 (c : Dev nD) (i : Fin 2) :
    k0_off4 c (BitVec.ofNat 32 (64 * (2 + i.val))) = ![0, 64 * (chunk ⟨14 + i.val, by omega⟩ c).val, 0] := by revert c i; decide +kernel
/-- Two of the z neighbour's chunks go on across y, two of the y neighbour's along z. -/
theorem chunk_y2 (c : Dev nD) (i : Fin 2) :
    chunk ⟨12 + i.val, by omega⟩ c = chunk ⟨8 + i.val, by omega⟩ (nbr 2 c) := by revert c i; decide +kernel
theorem chunk_z2 (c : Dev nD) (i : Fin 2) :
    chunk ⟨14 + i.val, by omega⟩ c = chunk ⟨6 + i.val, by omega⟩ (nbr 1 c) := by revert c i; decide +kernel
/-- What arrived across x goes on as transfers 4–7 and 8–11. -/
theorem chunk_home (c : Dev nD) (r : Fin 4) :
    chunk ⟨r.val, by omega⟩ (nbr 0 c) = chunk ⟨r.val, by omega⟩ c
      ∧ chunk ⟨4 + r.val, by omega⟩ c = chunk ⟨r.val, by omega⟩ c ∧ chunk ⟨8 + r.val, by omega⟩ c = chunk ⟨r.val, by omega⟩ c := by
  revert c r; decide +kernel

/-- An index is in chunk `q` exactly when its row is. -/
theorem mem_rows (q : Fin 16) (i : S1x1024x1024.Idx) : i ∈ (rows q).set ↔ (i 1).val / 64 = q.val := by
  rw [Rect.mem_set_unit]
  constructor
  · intro h
    have h1 := h 1
    change 64 * q.val ≤ (i 1).val ∧ (i 1).val < 64 * q.val + 64 at h1
    omega
  · intro h a
    have h0 : (i 0).val < 1 := (i 0).isLt
    have h2 : (i 2).val < 1024 := (i 2).isLt
    fin_cases a
    · change 0 ≤ (i 0).val ∧ (i 0).val < 0 + 1; omega
    · change 64 * q.val ≤ (i 1).val ∧ (i 1).val < 64 * q.val + 64; omega
    · change 0 ≤ (i 2).val ∧ (i 2).val < 0 + 1024; omega

theorem xch_set (q : Fin 16) : (xch q).view.set = (rows q).set := View.set_slice_whole cc0_stg0_0 (rows q)
theorem och_set (q : Fin 16) : (och q).view.set = (rows q).set := View.set_slice_whole cc0_stg2_0 (rows q)

/-- The chunk an index lies in. -/
def chunkOf (i : S1x1024x1024.Idx) : Fin 16 := ⟨(i 1).val / 64, by have : (i 1).val < 1024 := (i 1).isLt; omega⟩

theorem mem_rows_chunkOf (q : Fin 16) (i : S1x1024x1024.Idx) : i ∈ (rows q).set ↔ chunkOf i = q := by
  rw [mem_rows]; exact ⟨fun h => Fin.ext h, fun h => congrArg Fin.val h⟩

/-- The chunks are disjoint, -/
theorem rows_disjoint {q q' : Fin 16} (h : q ≠ q') : Disjoint (rows q).set (rows q').set :=
  Finset.disjoint_left.mpr fun i hi hi' => h (((mem_rows_chunkOf q i).mp hi).symm.trans ((mem_rows_chunkOf q' i).mp hi'))

/-- and make up the array. -/
theorem rows_cover : (Finset.univ.biUnion fun q : Fin 16 => (rows q).set) = (Finset.univ : Finset S1x1024x1024.Idx) :=
  Finset.eq_univ_of_forall fun i => Finset.mem_biUnion.mpr ⟨chunkOf i, Finset.mem_univ _, (mem_rows_chunkOf _ i).mpr rfl⟩

/-! ## Contents -/

variable {F : FTy → Type}

/-- An array's contents. -/
abbrev Arr (F : FTy → Type) : Type := S1x1024x1024.Idx → Elt F .f32

/-- Device `c`'s result, of the devices' arguments `X`: under the exchange each chunk is its source device's, under the
    identity the device's own array. -/
def outAt (X : Dev nD → Arr F) (sw : Bool) (c : Dev nD) : Arr F := fun i =>
  if sw then X (srcDev c (chunkOf i)) i else X c i

/-- Writing into a chunk of the result what a chunk of the argument reads copies the rows. -/
theorem land_x (q : Fin 16) (fd fs : Arr F) (i : S1x1024x1024.Idx) (hi : i ∈ (rows q).set) :
    (och q).view.write (Elt F) fd ((xch q).view.read (Elt F) fs) Finset.univ i = fs i := by
  rw [← och_set q] at hi
  obtain ⟨j, rfl⟩ := View.exists_emb_of_mem_set _ hi
  rw [View.write_emb_of_mem _ _ (Finset.mem_univ j)]
  rfl
/-- So does writing what the same chunk of a result reads. -/
theorem land_o (q : Fin 16) (fd fs : Arr F) (i : S1x1024x1024.Idx) (hi : i ∈ (rows q).set) :
    (och q).view.write (Elt F) fd ((och q).view.read (Elt F) fs) Finset.univ i = fs i := by
  rw [← och_set q] at hi
  obtain ⟨j, rfl⟩ := View.exists_emb_of_mem_set _ hi
  rw [View.write_emb_of_mem _ _ (Finset.mem_univ j)]
  rfl

/-- A chunk that crosses x holds what its receiver's result is to hold; -/
theorem outAt_x (X : Dev nD → Arr F) (c : Dev nD) (t : Fin 16) (ht : t.val < 4) (i : S1x1024x1024.Idx) (hi : i ∈ (rows (chunk t c)).set) :
    X c i = outAt X true (nbr 0 c) i := by
  unfold outAt; rw [if_pos rfl, (mem_rows_chunkOf _ i).mp hi, srcDev_x c t ht]
/-- so does one passed on along y or z. -/
theorem outAt_yz (X : Dev nD → Arr F) (c : Dev nD) (t : Fin 16) (ht : 4 ≤ t.val) (i : S1x1024x1024.Idx) :
    outAt X true c i = outAt X true (nbr (axis t) c) i := by
  unfold outAt; rw [if_pos rfl, if_pos rfl, srcDev_axis c t ht]

end Cert.Exchange

end
-- ==== Proof.Protocol.lean ====
/-
# The protocol between the devices

What the devices' semaphores count and hand over, as a schedule of the rounds library. A device has one barrier
semaphore, which its three neighbours each raise by one, and a send and a receive semaphore for each of the sixteen
transfers. A barrier signal hands over the signaller's chunks that its receiver is to write; a receive semaphore hands
over the chunk that arrived, with its contents; a send semaphore hands back what the transfer read. When the devices do
not exchange, the transfers' semaphores have nothing scheduled and the barrier hands over nothing.
-/
module

public import proofs.«01_k».proof.Proof.Mesh

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline library's beside the exchange's, whose duties are named by an axis. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## Cells -/

/-- The runtime's barrier semaphore. -/
abbrev barS : Sem sig := (SemArray.scalar (sig.barrier 0 rfl) : Sems sig S_).sem

/-- Transfer `t`'s semaphore at its sender, and at its receiver. -/
def sendS : Fin 16 → DmaSem sig := ![3, 4, 5, 6, 11, 12, 13, 14, 19, 20, 21, 22, 27, 28, 31, 32]
def recvS : Fin 16 → DmaSem sig := ![7, 8, 9, 10, 15, 16, 17, 18, 23, 24, 25, 26, 29, 30, 33, 34]

/-- What a DMA semaphore is for: `none` for the pipeline's own, else which end of which transfer (`true` the receiver's). -/
def role : DmaSem sig → Option (Bool × Fin 16) :=
  ![none, none, none,
    some (false, 0), some (false, 1), some (false, 2), some (false, 3), some (true, 0), some (true, 1), some (true, 2), some (true, 3),
    some (false, 4), some (false, 5), some (false, 6), some (false, 7), some (true, 4), some (true, 5), some (true, 6), some (true, 7),
    some (false, 8), some (false, 9), some (false, 10), some (false, 11), some (true, 8), some (true, 9), some (true, 10), some (true, 11),
    some (false, 12), some (false, 13), some (true, 12), some (true, 13), some (false, 14), some (false, 15), some (true, 14), some (true, 15)]

theorem role_send (t : Fin 16) : role (sendS t) = some (false, t) := by revert t; decide
theorem role_recv (t : Fin 16) : role (recvS t) = some (true, t) := by revert t; decide

/-- A device's cells: its barrier, its sends, its receives. -/
abbrev Ck : Type := Unit ⊕ (Fin 16 ⊕ Fin 16)

/-- The semaphores the kernel itself is given. -/
def osem : Fin 16 ⊕ Fin 16 → SemLoc sig
  | .inl t => .dma (sendS t)
  | .inr t => .dma (recvS t)
def csem : Ck → SemLoc sig
  | .inl _ => .reg barS
  | .inr k => osem k
abbrev kcell (ck : Dev nD × Ck) : GSem nD τ sig := ((ck.1 : Thread nD τ), csem ck.2)

abbrev barC (c : Dev nD) : GSem nD τ sig := ((c : Thread nD τ), .reg barS)
abbrev sendC (t : Fin 16) (c : Dev nD) : GSem nD τ sig := ((c : Thread nD τ), .dma (sendS t))
abbrev recvC (t : Fin 16) (c : Dev nD) : GSem nD τ sig := ((c : Thread nD τ), .dma (recvS t))

theorem csem_injective : Function.Injective csem := by decide

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- What one chunk's arrival counts on a DMA semaphore. -/
abbrev N : ℕ := (och 0).view.dmaCredit
theorem N_pos : 0 < N := View.dmaCredit_pos _ (by decide)

/-! ## What is handed over -/

variable (X : Dev nD → Arr F)

/-- Share `s` of chunk `q` of device `c`'s result, holding what `f` does there. -/
def oPts (c : Dev nD) (q : Fin 16) (s : PosShare TreeShare) (f : Arr F) : sProp 𝕄 :=
  (och q).view.loc (c : Thread nD τ) ↦[(och q).view.set]{s} f
/-- Chunk `q` of device `c`'s argument. -/
def xPts (c : Dev nD) (q : Fin 16) : sProp 𝕄 :=
  (xch q).view.loc (c : Thread nD τ) ↦[(xch q).view.set]{fullShare} X c

omit [FloatOps F] in
instance oPts_storable (c : Dev nD) (q : Fin 16) (s) (f : Arr F) : BI.Storable (upEmb : UEmb _ 𝕄) (oPts c q s f) := by
  unfold oPts; infer_instance
omit [FloatOps F] in
instance xPts_storable (c : Dev nD) (q : Fin 16) : BI.Storable (upEmb : UEmb _ 𝕄) (xPts X c q) := by unfold xPts; infer_instance

omit [FloatOps F] in
/-- Only the contents in the chunk matter. -/
theorem oPts_congr (c : Dev nD) (q : Fin 16) (s : PosShare TreeShare) {f g : Arr F} (h : ∀ i ∈ (rows q).set, f i = g i) :
    oPts c q s f = oPts c q s g := by
  unfold oPts; exact pointsTo_congr fun i hi => h i (by rw [← och_set]; exact hi)

/-- The share of its source a transfer reads: a chunk is passed on across y and along z at once, half each. -/
def shareOf (t : Fin 16) : PosShare TreeShare :=
  if t.val < 4 then fullShare else if t.val < 8 then fullShare.left else if t.val < 12 then fullShare.right else fullShare

/-- What transfer `t` reads on its sender `c`. -/
def sendPay (t : Fin 16) (c : Dev nD) : sProp 𝕄 :=
  if t.val < 4 then xPts X c (chunk t c) else oPts c (chunk t c) (shareOf t) (outAt X true c)
/-- What has arrived on `c` by transfer `t`. -/
def recvPay (t : Fin 16) (c : Dev nD) : sProp 𝕄 := oPts c (arrives c t) fullShare (outAt X true c)
/-- Where transfer `t` from `c` is to write, held at some contents. -/
def room (t : Fin 16) (c : Dev nD) : sProp 𝕄 := iprop(∃ f, oPts (F := F) (nbr (axis t) c) (chunk t c) fullShare f)
/-- What the barrier signal of `c`'s neighbour along `a` hands `c`. -/
def barPay (c : Dev nD) (a : Fin 3) : sProp 𝕄 := bigSep (Finset.univ.filter fun t => axis t = a) fun t => room (F := F) t c

omit [FloatOps F] in
instance room_storable (t : Fin 16) (c : Dev nD) : BI.Storable (upEmb : UEmb _ 𝕄) (room (F := F) t c) := by
  unfold room; infer_instance
omit [FloatOps F] in
instance barPay_storable (c : Dev nD) (a : Fin 3) : BI.Storable (upEmb : UEmb _ 𝕄) (barPay (F := F) c a) := by
  unfold barPay; infer_instance
omit [FloatOps F] in
instance sendPay_storable (t : Fin 16) (c : Dev nD) : BI.Storable (upEmb : UEmb _ 𝕄) (sendPay X t c) := by
  unfold sendPay; split <;> infer_instance
omit [FloatOps F] in
instance recvPay_storable (t : Fin 16) (c : Dev nD) : BI.Storable (upEmb : UEmb _ 𝕄) (recvPay X t c) := by
  unfold recvPay; infer_instance

/-! ## The schedule -/

/-- A semaphore's duties: the barrier's three, one for a transfer's when there is an exchange. -/
def dutiesAt (sw : Bool) : SemLoc sig → Finset (Fin 3)
  | .reg s => if s = barS then Finset.univ else ∅
  | .dma s => if sw = true ∧ (role s).isSome = true then {0} else ∅

/-- What a duty hands over. -/
def payAt (sw : Bool) (c : Dev nD) : SemLoc sig → Fin 3 → sProp 𝕄
  | .reg _, a => if sw then barPay (F := F) c a else iprop(emp)
  | .dma s, _ => match role s with
    | some (false, t) => sendPay X t c
    | some (true, t) => recvPay X t c
    | none => iprop(emp)

def amtAt : SemLoc sig → ℕ
  | .reg _ => 1
  | .dma _ => N

theorem amtAt_pos (s : SemLoc sig) : 0 < amtAt s := by
  cases s
  · exact Nat.one_pos
  · exact N_pos

/-- The exchange's schedule: everything in round 0. -/
def plan (sw : Bool) : Rounds.Schedule (GSem nD τ sig) (Fin 3) 𝕄 where
  duties g r := if r = 0 ∧ g.1.2 = .tc then dutiesAt sw g.2 else ∅
  unitless _ := False
  amount g _ _ := amtAt g.2
  payload g _ d := payAt X sw g.1.1 g.2 d
  amount_pos g _ _ _ := amtAt_pos g.2

omit [FloatOps F] in
instance payAt_storable (sw : Bool) (c : Dev nD) (s : SemLoc sig) (d : Fin 3) : BI.Storable (upEmb : UEmb _ 𝕄) (payAt X sw c s d) := by
  cases s with
  | reg s => show BI.Storable _ (if sw then barPay (F := F) c d else iprop(emp)); split <;> infer_instance
  | dma s =>
    show BI.Storable _ (match role s with
      | some (false, t) => sendPay X t c
      | some (true, t) => recvPay X t c
      | none => iprop(emp))
    split <;> infer_instance

instance plan_storable (sw : Bool) (g : GSem nD τ sig) (r : ℕ) (d : Fin 3) :
    BI.Storable (upEmb : UEmb _ 𝕄) ((plan X sw).payload g r d) := payAt_storable X sw g.1.1 g.2 d

section Facts

variable (sw : Bool) (c : Dev nD) (t : Fin 16)

omit [FloatOps F] in
theorem duties_zero (s : SemLoc sig) : (plan X sw).duties ((c : Thread nD τ), s) 0 = dutiesAt sw s := by
  dsimp only [plan]; exact if_pos ⟨rfl, rfl⟩
omit [FloatOps F] in
theorem duties_later (g : GSem nD τ sig) : ∀ r, 1 ≤ r → (plan X sw).duties g r = ∅ :=
  fun _ hr => by dsimp only [plan]; exact if_neg fun h => by omega
omit [FloatOps F] in
theorem duties_bar : (plan X sw).duties (barC c) 0 = Finset.univ := by
  rw [duties_zero]; dsimp only [dutiesAt]; exact if_pos rfl
omit [FloatOps F] in
theorem duties_send : (plan X true).duties (sendC t c) 0 = {0} := by
  rw [duties_zero]; dsimp only [dutiesAt]; exact if_pos ⟨rfl, by rw [role_send]; rfl⟩
omit [FloatOps F] in
theorem duties_recv : (plan X true).duties (recvC t c) 0 = {0} := by
  rw [duties_zero]; dsimp only [dutiesAt]; exact if_pos ⟨rfl, by rw [role_recv]; rfl⟩
omit [FloatOps F] in
/-- Without an exchange a DMA semaphore has no duty in any round. -/
theorem duties_idle (s : DmaSem sig) : ∀ r, 0 ≤ r → (plan X false).duties ((c : Thread nD τ), .dma s) r = ∅ := fun r _ => by
  dsimp only [plan, dutiesAt]; split
  · exact if_neg fun h => by cases h.1
  · rfl

omit [FloatOps F] in
theorem expect_bar : (plan X sw).expect (barC c) 0 = 3 := by
  unfold Schedule.expect Schedule.amountOf
  rw [duties_bar]; rfl
omit [FloatOps F] in
theorem expect_send : (plan X true).expect (sendC t c) 0 = N := by
  unfold Schedule.expect Schedule.amountOf; rw [duties_send, Finset.sum_singleton]; rfl
omit [FloatOps F] in
theorem expect_recv : (plan X true).expect (recvC t c) 0 = N := by
  unfold Schedule.expect Schedule.amountOf; rw [duties_recv, Finset.sum_singleton]; rfl

omit [FloatOps F] in
theorem payload_bar (a : Fin 3) : (plan X sw).payload (barC c) 0 a = if sw then barPay (F := F) c a else iprop(emp) := rfl
omit [FloatOps F] in
theorem payload_send (d : Fin 3) : (plan X sw).payload (sendC t c) 0 d = sendPay X t c := by
  dsimp only [plan, payAt]; rw [role_send]
omit [FloatOps F] in
theorem payload_recv (d : Fin 3) : (plan X sw).payload (recvC t c) 0 d = recvPay X t c := by
  dsimp only [plan, payAt]; rw [role_recv]

omit [FloatOps F] in
/-- A send's round hands back its source, -/
theorem rest_send : bigSep ((plan X true).duties (sendC t c) 0 \ ∅) (fun d => (plan X true).payload (sendC t c) 0 d) = sendPay X t c := by
  rw [Finset.sdiff_empty, duties_send, bigSep_singleton, payload_send]
omit [FloatOps F] in
/-- a receive's what arrived, -/
theorem rest_recv : bigSep ((plan X true).duties (recvC t c) 0 \ ∅) (fun d => (plan X true).payload (recvC t c) 0 d) = recvPay X t c := by
  rw [Finset.sdiff_empty, duties_recv, bigSep_singleton, payload_recv]
omit [FloatOps F] in
/-- and the barrier's, in an exchange, the room for all sixteen transfers. -/
theorem rest_bar : bigSep ((plan X true).duties (barC c) 0 \ ∅) (fun d => (plan X true).payload (barC c) 0 d)
    = bigSep Finset.univ fun t : Fin 16 => room (F := F) t c := by
  rw [Finset.sdiff_empty, duties_bar, bigSep_fiberwise Finset.univ axis, show (Finset.univ.image axis) = Finset.univ by decide]
  exact bigSep_congr fun a _ => rfl

end Facts

/-! ## What the devices owe each other, and the order of waiting -/

/-- A due: a unit to a neighbour's barrier, or a transfer's arrival. -/
abbrev Due : Type := Fin 3 ⊕ Fin 16

def dueAxis : Due → Fin 3
  | .inl a => a
  | .inr t => axis t
def dueCk : Due → Ck
  | .inl _ => .inl ()
  | .inr t => .inr (.inr t)
/-- The cell device `c`'s due `p` is paid to. -/
abbrev dueCell (c : Dev nD) (p : Due) : GSem nD τ sig := kcell (nbr (dueAxis p) c, dueCk p)
def dueAmt : Due → ℕ
  | .inl _ => 1
  | .inr _ => N

/-- What device `c` owes with the dues `l` ahead of it, the next one first. -/
def owed (c : Dev nD) : List Due → CellTallies nD τ sig Unit
  | [] => 0
  | p :: l => owed c l + tallyAt (dueCell c p) () (dueAmt p)

/-- The transfers in the order the kernel starts them. -/
abbrev sends : List Due :=
  [.inr 0, .inr 1, .inr 2, .inr 3, .inr 4, .inr 8, .inr 5, .inr 9, .inr 6, .inr 10, .inr 7, .inr 11, .inr 12, .inr 13, .inr 14, .inr 15]
/-- A device's dues: its three barrier signals, then the transfers if there is an exchange. -/
abbrev dues (sw : Bool) : List Due := .inl 0 :: .inl 1 :: .inl 2 :: (if sw then sends else [])

/-- Waiting goes up: the pipeline's own and the sends' semaphores at 0, the barrier, arrivals across x, arrivals of the
    first hop along y and z, arrivals of the second. -/
def level : SemLoc sig → ℕ
  | .reg _ => 1
  | .dma s => match role s with
    | some (true, t) => if t.val < 4 then 2 else if t.val < 12 then 3 else 4
    | _ => 0

def L (g : GSem nD τ sig) : Finset Unit := if g.1.2 = .tc then {()} else ∅
def lv (g : GSem nD τ sig) (_ : Unit) : ℕ := level g.2

theorem L_of_ne (g : GSem nD τ sig) (h : g.1.2 ≠ .tc) : L g = ∅ := if_neg h
theorem L_tc (c : Dev nD) (s : SemLoc sig) : L ((c : Thread nD τ), s) = {()} := if_pos rfl

/-- Owing at a cell means a due there. -/
theorem owed_pos {c : Dev nD} {g : GSem nD τ sig} {u : Unit} {l : List Due} (h : 0 < owed c l g u) : ∃ p ∈ l, g = dueCell c p := by
  induction l with
  | nil => exact absurd h (Nat.lt_irrefl 0)
  | cons p l ih =>
    unfold owed at h
    rw [Pi.add_apply, Finsupp.add_apply, tallyAt_apply] at h
    by_cases hp : g = dueCell c p
    · exact ⟨p, List.mem_cons_self, hp⟩
    · rw [if_neg fun h' => hp h'.1, Nat.add_zero] at h
      obtain ⟨p', hp', e⟩ := ih h
      exact ⟨p', List.mem_cons_of_mem _ hp', e⟩

omit [FloatOps F] in
/-- A device may wait on a semaphore below everything it still owes. -/
theorem mayWait (c : Dev nD) (s : SemLoc sig) (l : List Due) (h : ∀ p ∈ l, level s < level (csem (dueCk p))) :
    (levAts L lv : sProp 𝕄) ⊢ MayWait (c : Thread nD τ) s () (owed c l) :=
  MayOwe.of_cut (L := L) (lev := lv) (level s) (fun p hp => by rw [Finset.mem_singleton.mp hp, L_tc]; exact Finset.mem_singleton_self _)
    (fun g u hg => by obtain ⟨p, _, rfl⟩ := owed_pos hg; rw [L_tc]; exact Finset.mem_singleton_self _)
    (fun p hp => by rw [Finset.mem_singleton.mp hp]; exact le_refl _)
    (fun g u hg => by obtain ⟨p, hp, rfl⟩ := owed_pos hg; exact h p hp)

end Cert.Exchange

end
-- ==== Proof.Steps.lean ====
/-
# The kernel's communication steps

One rule for each kind of effect by which a device talks to another: starting a transfer, waiting for one to arrive,
waiting for one to be sent, and each is stated once for all sixteen transfers. A semaphore is waited on once, so a wait
also closes it: its counter at zero is the device's again.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → Arr F) (sw : Bool) (K : Dev nD × Ck → ℕ)

/-- What every device may read of every cell: its invariant, and that round 0 is reached. -/
def records : sProp 𝕄 :=
  iprop((bigSep Finset.univ fun ck : Dev nD × Ck => cellInv ER (plan X sw) (K ck) (kcell ck))
    ∗ bigSep Finset.univ fun ck : Dev nD × Ck => reached ER (kcell ck) 0)

instance records_persistent : BI.Persistent (records X sw K) := by unfold records; infer_instance

omit [FloatOps F] in
theorem inv_of (ck : Dev nD × Ck) : records X sw K ⊢ cellInv ER (plan X sw) (K ck) (kcell ck) := by
  unfold records; iintro ⟨H, -⟩
  iapply (show (bigSep Finset.univ fun ck : Dev nD × Ck => (cellInv ER (plan X sw) (K ck) (kcell ck) : sProp 𝕄)) ⊢ cellInv ER (plan X sw) (K ck) (kcell ck)
    from BI.bigSep_elim (Finset.mem_univ ck))
  iexact H
omit [FloatOps F] in
theorem reached_of (ck : Dev nD × Ck) : records X sw K ⊢ reached ER (kcell ck) 0 := by
  unfold records; iintro ⟨-, H⟩
  iapply (show (bigSep Finset.univ fun ck : Dev nD × Ck => (reached ER (kcell ck) 0 : sProp 𝕄)) ⊢ reached ER (kcell ck) 0
    from BI.bigSep_elim (Finset.mem_univ ck))
  iexact H

/-- What device `c` starts transfer `t` with: its place at its send semaphore, and the right to pay either end's duty. -/
def ready (t : Fin 16) (c : Dev nD) : sProp 𝕄 :=
  iprop(atPos ER (sendC t c) 0 ∅ 0 ∗ dutyTok ER (sendC t c) 0 0 ∗ dutyTok ER (recvC t (nbr (axis t) c)) 0 0)
/-- What it waits for the transfer's end with. -/
def sent (t : Fin 16) (c : Dev nD) : sProp 𝕄 := iprop(atPos ER (sendC t c) 0 ∅ 0 ∗ cred (tallyAt (sendC t c) () N))
/-- What it waits for an arrival with. -/
def awaited (t : Fin 16) (c : Dev nD) : sProp 𝕄 := iprop(atPos ER (recvC t c) 0 ∅ 0 ∗ cred (tallyAt (recvC t c) () N))
/-- That the dues `l` are ahead of device `c`. -/
def owing (c : Dev nD) (l : List Due) : sProp 𝕄 := iprop(∃ W, owes (c : Thread nD τ) (owed c l) W)

/-- Every chunk counts the same on a DMA semaphore. -/
theorem credit_eq (m : Memref sig .tc .vmem S1x64x1024 .f32) : m.view.dmaCredit = N := rfl

/-- The memref transfer `t` reads on device `c`. -/
def source (t : Fin 16) (c : Dev nD) : Memref sig .tc .vmem S1x64x1024 .f32 := if t.val < 4 then xch (chunk t c) else och (chunk t c)

omit [FloatOps F] in
/-- What a transfer writes is what its receiver's result is to hold. -/
theorem landed (t : Fin 16) (c : Dev nD) (fd : Arr F) :
    (∃ (q : PosShare TreeShare) (fs : Buf (Elt F) ((source t c).view.loc (c : Thread nD τ))),
      ((source t c).view.loc (c : Thread nD τ) ↦[(source t c).view.set]{q} fs : sProp 𝕄) = sendPay X t c
        ∧ ((och (chunk t c)).view.loc (nbr (axis t) c : Thread nD τ) ↦[(och (chunk t c)).view.set]{fullShare}
            ((och (chunk t c)).view.write (Elt F) fd ((source t c).view.read (Elt F) fs) Finset.univ) : sProp 𝕄)
          = recvPay X t (nbr (axis t) c)) := by
  have hq : arrives (nbr (axis t) c) t = chunk t c := by unfold arrives; rw [nbr_nbr]
  unfold source sendPay recvPay
  rw [hq]
  by_cases ht : t.val < 4
  · have ha : axis t = 0 := by clear hq; revert t; decide
    rw [if_pos ht, if_pos ht]
    refine ⟨fullShare, X c, rfl, ?_⟩
    refine oPts_congr (F := F) _ _ _ fun i hi => ?_
    rw [land_x _ _ _ _ hi, outAt_x X c t ht i hi, ha]
  · rw [if_neg ht, if_neg ht]
    refine ⟨shareOf t, outAt X true c, rfl, ?_⟩
    refine oPts_congr (F := F) _ _ _ fun i hi => ?_
    rw [land_o _ _ _ _ hi, outAt_yz X c t (Nat.not_lt.mp ht) i]

/-- Starting transfer `t`: its source and the room at its receiver go, the due is paid, and the send is to be waited for. -/
theorem step_send (t : Fin 16) (c n : Dev nD) (hn : n = nbr (axis t) c) {src dst : Memref sig .tc .vmem S1x64x1024 .f32}
    {sS rS : DmaSem sig} (hs : src = source t c) (hd : dst = och (chunk t c)) (hsS : sS = sendS t) (hrS : rS = recvS t) (l : List Due)
    {hsc : (dst : Memref sig (Dev.tc n : Thread nD τ).2.kind .vmem S1x64x1024 .f32).view.ref.isScScratch = false}
    {hsrc : src.view.WordExact} {hdst : dst.view.WordExact}
    {hsem : DmaTarget.Typed .vmem (.dma rS) (.remote (Dev.tc n : Thread nD τ) (dst : Memref sig (Dev.tc n : Thread nD τ).2.kind .vmem S1x64x1024 .f32) (.dma sS) hsc)}
    {α : Type} {Q : α → sProp 𝕄} {k : PUnit → Prog (TpuEff nD τ sig (Elt F) Λ₀ .tc) α} :
    records X true K ⊢ iprop(ready (F := F) t c -∗ sendPay X t c -∗ room (F := F) t c -∗ owing (F := F) c (.inr t :: l)
      -∗ ((sent (F := F) t c ∗ owing (F := F) c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) k) Q) := by
  subst hn hs hd hsS hrS
  unfold ready room sent owing
  iintro #HR ⟨Hat, Ht1, Ht2⟩ Hsrc ⟨%fd, Hroom⟩ ⟨%W, HO⟩ Hk
  obtain ⟨q, fs, e₁, e₂⟩ := landed X t c fd
  ihave Hsrc := (Entails.of_eq e₁.symm) $$ Hsrc
  unfold oPts
  iapply (Rounds.wp_send_pointsTo 𝒱₀ ER (plan X true) (c : Thread nD τ) none (κ₁ := K (c, .inr (.inl t))) (κ₂ := K (nbr (axis t) c, .inr (.inr t)))
    (r₁ := 0) (r₂ := 0) (d₁ := 0) (d₂ := 0) (fs := fs) (fd := fd) (q := q)
    (by rw [duties_send]; exact Finset.mem_singleton_self _) (by rw [duties_recv]; exact Finset.mem_singleton_self _)
    () () N rfl rfl rfl (owed c l) rfl (W := W)
    (by rw [payload_send]; exact Entails.of_eq e₁)
    (by rw [payload_recv]; exact Entails.of_eq e₂)) $$ [Hsrc Hroom HO Ht1 Ht2]
  · isplitr; · iapply (inv_of X true K (c, .inr (.inl t))); iexact HR
    isplitr; · iapply (inv_of X true K (nbr (axis t) c, .inr (.inr t))); iexact HR
    isplitl [Hsrc]; · iexact Hsrc
    isplitl [Hroom]; · iexact Hroom
    isplitl [HO]; · iexact HO
    isplitl [Ht1]; · iexact Ht1
    isplitr; · iapply (reached_of X true K (c, .inr (.inl t))); iexact HR
    isplitl [Ht2]; · iexact Ht2
    iapply (reached_of X true K (nbr (axis t) c, .inr (.inr t))); iexact HR
  iintro ⟨Hc, HO⟩
  iapply Hk
  isplitl [Hat Hc]
  · isplitl [Hat] <;> iassumption
  iexists W; iexact HO

/-- Waiting for arrival `t`, below everything still owed: what arrived, and the semaphore at zero. -/
theorem step_recv (t : Fin 16) (c : Dev nD) {src dst : Memref sig .tc .vmem S1x64x1024 .f32} {rS : DmaSem sig}
    (hrS : rS = recvS t) (l : List Due)
    (hl : ∀ p ∈ l, level (.dma (recvS t)) < level (csem (dueCk p)))
    {hsrc : src.view.WordExact} {hdst : dst.view.WordExact}
    {α : Type} {Q : α → sProp 𝕄} {k : PUnit → Prog (TpuEff nD τ sig (Elt F) Λ₀ .tc) α} :
    records X true K ⊢ iprop(levAts L lv -∗ awaited (F := F) t c -∗ owing (F := F) c l
      -∗ ((recvPay X t c ∗ semVal (recvC t c) 0 ∗ owing (F := F) c l) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rS src dst hsrc hdst) k) Q) := by
  subst hrS
  unfold awaited owing
  iintro #HR #Hlev ⟨Hat, Hc⟩ ⟨%W, HO⟩ Hk
  iapply (Rounds.wp_wait_rest_token 𝒱₀ ER (plan X true) (c : Thread nD τ) none (κ := K (c, .inr (.inr t)))
      (wpE_waitDma2_eq 𝒱₀ (c : Thread nD τ) none Set.univ) (Set.mem_univ _) () (O := owed c l) (W := W) (R := 0) (m := 0) (T := ∅)
      (by rw [Nat.zero_add, expect_recv, credit_eq])) $$ [Hat Hc HO]
  · isplitr; · iapply (inv_of X true K (c, .inr (.inr t))); iexact HR
    isplitl [Hc]; · rw [credit_eq]; iexact Hc
    isplitl [HO]; · iexact HO
    isplitr; · iapply (mayWait c _ l hl); iexact Hlev
    iexact Hat
  iintro ⟨HO, Hat, -, Hpay⟩
  ihave Hp := (Entails.of_eq (rest_recv X c t)) $$ Hpay
  imod (Rounds.cell_close ER (plan X true) (Set.mem_univ (K (c, .inr (.inr t)))) (fun h => h) (R := 0 + 1) (duties_later X true (recvC t c))) $$ [Hat] with Hz
  · isplitr; · iapply (inv_of X true K (c, .inr (.inr t))); iexact HR
    iexact Hat
  iapply Hk
  isplitl [Hp]; · iexact Hp
  isplitl [Hz]; · iexact Hz
  iexists _; iexact HO

/-- Waiting for send `t`, nothing owed any more: what it read is back, and the semaphore at zero. -/
theorem step_sent (t : Fin 16) (c : Dev nD) {src dst : Memref sig .tc .vmem S1x64x1024 .f32} {sS : DmaSem sig}
    (hsS : sS = sendS t)
    {hsrc : src.view.WordExact} {hdst : dst.view.WordExact}
    {α : Type} {Q : α → sProp 𝕄} {k : PUnit → Prog (TpuEff nD τ sig (Elt F) Λ₀ .tc) α} :
    records X true K ⊢ iprop(sent (F := F) t c -∗ owing (F := F) c []
      -∗ ((sendPay X t c ∗ semVal (sendC t c) 0 ∗ owing (F := F) c []) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hsS
  unfold sent owing
  iintro #HR ⟨Hat, Hc⟩ ⟨%W, HO⟩ Hk
  iapply (Rounds.wp_wait_rest_token 𝒱₀ ER (plan X true) (c : Thread nD τ) none (κ := K (c, .inr (.inl t)))
      (wpE_waitDma2_eq 𝒱₀ (c : Thread nD τ) none Set.univ) (Set.mem_univ _) () (O := owed c []) (W := W) (R := 0) (m := 0) (T := ∅)
      (by rw [Nat.zero_add, expect_send, credit_eq])) $$ [Hat Hc HO]
  · isplitr; · iapply (inv_of X true K (c, .inr (.inl t))); iexact HR
    isplitl [Hc]; · rw [credit_eq]; iexact Hc
    isplitl [HO]; · iexact HO
    isplitr; · rw [show owed c [] = 0 from rfl, MayWait_zero]; iempintro
    iexact Hat
  iintro ⟨HO, Hat, -, Hpay⟩
  ihave Hp := (Entails.of_eq (rest_send X c t)) $$ Hpay
  imod (Rounds.cell_close ER (plan X true) (Set.mem_univ (K (c, .inr (.inl t)))) (fun h => h) (R := 0 + 1) (duties_later X true (sendC t c))) $$ [Hat] with Hz
  · isplitr; · iapply (inv_of X true K (c, .inr (.inl t))); iexact HR
    iexact Hat
  iapply Hk
  isplitl [Hp]; · iexact Hp
  isplitl [Hz]; · iexact Hz
  iexists _; iexact HO

/-- A barrier signal to the neighbour along `a`: what its duty hands over goes, the due is paid. -/
theorem step_signal (a : Fin 3) (c n : Dev nD) (hn : n = nbr a c) (l : List Due)
    {α : Type} {Q : α → sProp 𝕄} {k : PUnit → Prog (TpuEff nD τ sig (Elt F) Λ₀ .tc) α} :
    records X sw K ⊢ iprop(dutyTok ER (barC (nbr a c)) 0 a -∗ (if sw then barPay (F := F) (nbr a c) a else iprop(emp)) -∗ owing (F := F) c (.inl a :: l)
      -∗ (owing (F := F) c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  unfold owing
  iintro #HR Ht Hp ⟨%W, HO⟩ Hk
  iapply (Rounds.wp_signal 𝒱₀ ER (plan X sw) (c : Thread nD τ) none (dst := (nbr a c : Thread nD τ)) (κ := K (nbr a c, .inl ()))
      (r := 0) (d := a) (by rw [duties_bar]; exact Finset.mem_univ _) rfl () (owed c l) rfl) $$ [Ht Hp HO]
  · isplitr; · iapply (inv_of X sw K (nbr a c, .inl ())); iexact HR
    isplitl [HO]; · iexact HO
    isplitl [Ht]; · iexact Ht
    isplitl [Hp]; · rw [payload_bar]; iexact Hp
    iapply (reached_of X sw K (nbr a c, .inl ())); iexact HR
  iintro HO
  iapply Hk
  iexists W; iexact HO

/-- The barrier wait: what the three neighbours' signals hand over, and the semaphore at zero. -/
theorem step_barrier (c : Dev nD) (l : List Due) (hl : ∀ p ∈ l, level (.reg barS) < level (csem (dueCk p)))
    {α : Type} {Q : α → sProp 𝕄} {k : PUnit → Prog (TpuEff nD τ sig (Elt F) Λ₀ .tc) α} :
    records X sw K ⊢ iprop(levAts L lv -∗ atPos ER (barC c) 0 ∅ 0 -∗ cred (tallyAt (barC c) () 3) -∗ owing (F := F) c l
      -∗ ((bigSep ((plan X sw).duties (barC c) 0 \ ∅) (fun d => (plan X sw).payload (barC c) 0 d) ∗ semVal (barC c) 0 ∗ owing (F := F) c l)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  unfold owing
  iintro #HR #Hlev Hat Hc ⟨%W, HO⟩ Hk
  iapply (Rounds.wp_wait_rest_token 𝒱₀ ER (plan X sw) (c : Thread nD τ) none (κ := K (c, .inl ()))
      (wpE_semWait_eq 𝒱₀ (c : Thread nD τ) none Set.univ) (Set.mem_univ _) () (O := owed c l) (W := W) (R := 0) (m := 0) (T := ∅)
      (by rw [expect_bar])) $$ [Hat Hc HO]
  · isplitr; · iapply (inv_of X sw K (c, .inl ())); iexact HR
    isplitl [Hc]; · iexact Hc
    isplitl [HO]; · iexact HO
    isplitr; · iapply (mayWait c _ l hl); iexact Hlev
    iexact Hat
  iintro ⟨HO, Hat, -, Hpay⟩
  imod (Rounds.cell_close ER (plan X sw) (Set.mem_univ (K (c, .inl ()))) (fun h => h) (R := 0 + 1) (duties_later X sw (barC c))) $$ [Hat] with Hz
  · isplitr; · iapply (inv_of X sw K (c, .inl ())); iexact HR
    iexact Hat
  iapply Hk
  isplitl [Hpay]; · iexact Hpay
  isplitl [Hz]; · iexact Hz
  iexists _; iexact HO

/-- Without an exchange a transfer's semaphore closes unused. -/
theorem close_idle (c : Dev nD) (k : Fin 16 ⊕ Fin 16) :
    iprop(records X false K ∗ atPos ER (kcell (c, .inr k)) 0 ∅ 0) ⊢ (|={Set.univ}=> semVal (kcell (c, .inr k)) 0 : sProp 𝕄) := by
  iintro ⟨#HR, Hat⟩
  iapply (Rounds.cell_close ER (plan X false) (Set.mem_univ (K (c, .inr k))) (fun h => h) (R := 0)
    (by cases k <;> exact duties_idle X c _))
  isplitr; · iapply (inv_of X false K (c, .inr k)); iexact HR
  iexact Hat

end Cert.Exchange

end
-- ==== Proof.Body.lean ====
/-
# The kernel's body on one device

The body is executed once, at a symbolic device, from the ghost state the launch deals it: the handshake with the three
neighbours, then either the sixteen transfers of the exchange or the copy of the device's own block. It ends with the
result's block at the value `outAt` names, the argument's and the table's as they were, and every semaphore at zero.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Arr F) (K : Dev nD × Ck → ℕ)

/-! ## Blocks as chunks -/

/-- The argument's block, the table's and the result's on device `c`. -/
abbrev xAll (c : Dev nD) (f : Arr F) : sProp 𝕄 := (c : Thread nD τ).loc cc0_stg0_0 ↦[Finset.univ]{fullShare} f
abbrev pAll (c : Dev nD) (p : S2.Idx → Elt F .i32) : sProp 𝕄 := (c : Thread nD τ).loc cc0_stg1_0 ↦[Finset.univ]{fullShare} p
abbrev oAll (c : Dev nD) (f : Arr F) : sProp 𝕄 := (c : Thread nD τ).loc cc0_stg2_0 ↦[Finset.univ]{fullShare} f

omit [FloatOps F] in
/-- One conjunct for every axis, one by one. -/
theorem three (Φ : Fin 3 → sProp 𝕄) : bigSep Finset.univ Φ = iprop(Φ 0 ∗ Φ 1 ∗ Φ 2) :=
  bigSep_univ_eq_bigSepL [0, 1, 2] (by decide) (by decide) Φ

omit [FloatOps F] in
/-- One conjunct for every chunk is one for every arrival. -/
theorem by_arrival (c : Dev nD) (Φ : Fin 16 → sProp 𝕄) : bigSep Finset.univ Φ = bigSep Finset.univ fun t => Φ (arrives c t) :=
  bigSep_univ_equiv (arrive c) Φ

omit [FloatOps F] in
/-- The argument's block is its sixteen chunks, -/
theorem x_chunks (c : Dev nD) : xAll c (X c) = bigSep Finset.univ fun t => xPts X c (arrives c t) := by
  rw [← by_arrival c (fun q => xPts X c q)]
  unfold xAll
  rw [← rows_cover, pointsTo_biUnion Finset.univ _ fun q _ q' _ h => rows_disjoint h]
  exact bigSep_congr fun q _ => by unfold xPts; rw [xch_set]
omit [FloatOps F] in
/-- and so is the result's. -/
theorem o_chunks (c : Dev nD) (f : Arr F) : oAll c f = bigSep Finset.univ fun t => oPts c (arrives c t) fullShare f := by
  rw [← by_arrival c (fun q => oPts c q fullShare f)]
  unfold oAll
  rw [← rows_cover, pointsTo_biUnion Finset.univ _ fun q _ q' _ h => rows_disjoint h]
  exact bigSep_congr fun q _ => by unfold oPts; rw [och_set]

omit [FloatOps F] in
/-- A device's result's block is the room its three neighbours are to write in. -/
theorem o_rooms (c : Dev nD) (f : Arr F) :
    oAll c f ⊢ iprop(barPay (F := F) (nbr 0 c) 0 ∗ barPay (F := F) (nbr 1 c) 1 ∗ barPay (F := F) (nbr 2 c) 2) := by
  have h (a : Fin 3) : bigSep (Finset.univ.filter fun t => axis t = a) (fun t => oPts c (arrives c t) fullShare f) ⊢ barPay (F := F) (nbr a c) a := by
    unfold barPay
    refine bigSep_mono fun t ht => ?_
    obtain rfl := (Finset.mem_filter.mp ht).2
    unfold room arrives
    rw [nbr_nbr]
    show oPts c (chunk t (nbr (axis t) c)) fullShare f ⊢ iprop(∃ f, oPts (F := F) c (chunk t (nbr (axis t) c)) fullShare f)
    iintro H; iexists f; iexact H
  rw [o_chunks, bigSep_fiberwise Finset.univ axis, show (Finset.univ.image axis) = Finset.univ by decide,
    three]
  exact BIClass.sep_mono (h 0) (BIClass.sep_mono (h 1) (h 2))

omit [FloatOps F] in
/-- What a first transfer reads is a chunk of the argument. -/
theorem pay_x (c : Dev nD) (t : Fin 16) (ht : t.val < 4) : xPts X c (arrives c t) = sendPay X t c := by
  have h : arrives c t = chunk t c := by revert c t; decide +kernel
  unfold sendPay; rw [if_pos ht, h]
omit [FloatOps F] in
/-- What arrived across x is what the transfers across y and along z read, half each. -/
theorem pay_home (c : Dev nD) (r : Fin 4) :
    recvPay X ⟨r.val, by omega⟩ c ⊣⊢ iprop(sendPay X ⟨4 + r.val, by omega⟩ c ∗ sendPay X ⟨8 + r.val, by omega⟩ c) := by
  obtain ⟨h1, h2, h3⟩ := chunk_home c r
  have ha : axis ⟨r.val, by omega⟩ = 0 := by fin_cases r <;> rfl
  unfold recvPay sendPay arrives
  rw [ha, h1, if_neg (by simp only; omega), if_neg (by simp only; omega), h2, h3]
  have s1 : shareOf ⟨4 + r.val, by omega⟩ = fullShare.left := by fin_cases r <;> rfl
  have s2 : shareOf ⟨8 + r.val, by omega⟩ = fullShare.right := by fin_cases r <;> rfl
  rw [s1, s2]
  exact pointsTo_share (PosShare.mem_left_op_right fullShare)
omit [FloatOps F] in
/-- Two arrivals along z go on across y, -/
theorem pay_y2 (c : Dev nD) (i : Fin 2) : recvPay X ⟨8 + i.val, by omega⟩ c = sendPay X ⟨12 + i.val, by omega⟩ c := by
  have h := chunk_y2 c i
  have ha : axis ⟨8 + i.val, by omega⟩ = 2 := by fin_cases i <;> rfl
  have hs : shareOf ⟨12 + i.val, by omega⟩ = fullShare := by fin_cases i <;> rfl
  unfold recvPay sendPay arrives
  rw [ha, if_neg (by simp only; omega), h, hs]
omit [FloatOps F] in
/-- and two across y along z. -/
theorem pay_z2 (c : Dev nD) (i : Fin 2) : recvPay X ⟨6 + i.val, by omega⟩ c = sendPay X ⟨14 + i.val, by omega⟩ c := by
  have h := chunk_z2 c i
  have ha : axis ⟨6 + i.val, by omega⟩ = 1 := by fin_cases i <;> rfl
  have hs : shareOf ⟨14 + i.val, by omega⟩ = fullShare := by fin_cases i <;> rfl
  unfold recvPay sendPay arrives
  rw [ha, if_neg (by simp only; omega), h, hs]

omit [FloatOps F] in
/-- One conjunct for every transfer, one by one. -/
theorem sixteen (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-! ## The handshake -/

/-- The entry of the table device `c` looks up. -/
def picked (c : Dev nD) (p : S2.Idx → Elt F .i32) : Elt F .i32 :=
  pM.view.readAt (Elt F) (Rect.unit (s := S2) (k0_off1 c) S1.size (k0_off1_inb c)).toLoadRect p (Shape.Idx.first (numel1_S1.symm ▸ Nat.one_pos))
/-- Device `c`'s place along x, as the kernel computes it. -/
def xWord (c : Dev nD) : BitVec 32 := Scalar.remsi (Scalar.divsi (Dev.word c) 8#32) 2#32

/-- The table's entry and the three barrier signals and the wait: what the neighbours hand over. -/
theorem handshake (sw : Bool) (c : Dev nD) (p : S2.Idx → Elt F .i32) (n₁ n₂ n₃ : Dev nD) (h₁ : n₁ = nbr 0 c) (h₂ : n₂ = nbr 1 c) (h₃ : n₃ = nbr 2 c)
    {hl : pM.view.LoadsAt (Rect.unit (s := S2) (k0_off1 c) S1.size (k0_off1_inb c)).toLoadRect}
    {Q : PUnit → sProp 𝕄} {k : (S1.Idx → Elt F .i32) → Prog (TpuEff nD τ sig (Elt F) Λ₀ .tc) PUnit} :
    records X sw K ⊢ iprop(levAts L lv -∗ pAll c p -∗ atPos ER (barC c) 0 ∅ 0 -∗ cred (tallyAt (barC c) () 3)
      -∗ (bigSep Finset.univ fun a : Fin 3 => dutyTok ER (barC (nbr a c)) 0 a)
      -∗ (if sw then iprop(barPay (F := F) (nbr 0 c) 0 ∗ barPay (F := F) (nbr 1 c) 1 ∗ barPay (F := F) (nbr 2 c) 2) else iprop(emp))
      -∗ owing (F := F) c (dues sw)
      -∗ ((pAll c p ∗ bigSep ((plan X sw).duties (barC c) 0 \ ∅) (fun d => (plan X sw).payload (barC c) 0 d) ∗ semVal (barC c) 0
            ∗ owing (F := F) c (if sw then sends else []))
          -∗ wp frame (wpE (defs₀ (F := F)) 𝒱₀ (c : Thread nD τ) none) Set.univ (k (pM.view.readAt (Elt F) (Rect.unit (s := S2) (k0_off1 c) S1.size (k0_off1_inb c)).toLoadRect p)) Q)
      -∗ wp frame (wpE (defs₀ (F := F)) 𝒱₀ (c : Thread nD τ) none) Set.univ
          (.op (.load pM (Rect.unit (s := S2) (k0_off1 c) S1.size (k0_off1_inb c)).toLoadRect hl) fun f =>
            .op (.semSignal (n₁ : Thread nD τ) barS 1) fun _ => .op (.semSignal (n₂ : Thread nD τ) barS 1) fun _ =>
              .op (.semSignal (n₃ : Thread nD τ) barS 1) fun _ => .op (.semWait barS 3) fun _ =>
                k f) Q) := by
  rw [three]
  iintro #HR #Hlev Hp Hat Hc ⟨Ht0, Ht1, Ht2⟩ Hpay HO Hk
  have hsplit : (if sw then iprop(barPay (F := F) (nbr 0 c) 0 ∗ barPay (F := F) (nbr 1 c) 1 ∗ barPay (F := F) (nbr 2 c) 2) else iprop(emp))
      ⊢ iprop((if sw then barPay (F := F) (nbr 0 c) 0 else iprop(emp)) ∗ (if sw then barPay (F := F) (nbr 1 c) 1 else iprop(emp))
        ∗ (if sw then barPay (F := F) (nbr 2 c) 2 else iprop(emp))) := by
    cases sw
    · iintro -; isplitr; · iempintro
      isplitr <;> iempintro
    · exact Entails.refl _
  ihave Hpay := hsplit $$ Hpay
  icases Hpay with ⟨Hp0, Hp1, Hp2⟩
  iapply (wp_load 𝒱₀ (c : Thread nD τ) none Set.univ (m := pM) (Finset.subset_univ _)) $$ Hp
  iintro Hp
  iapply (step_signal X sw K 0 c _ h₁ _) $$ HR Ht0 Hp0 HO
  iintro HO
  iapply (step_signal X sw K 1 c _ h₂ _) $$ HR Ht1 Hp1 HO
  iintro HO
  iapply (step_signal X sw K 2 c _ h₃ _) $$ HR Ht2 Hp2 HO
  iintro HO
  iapply (step_barrier X sw K c _ (by cases sw <;> decide)) $$ HR Hlev Hat Hc HO
  iintro ⟨Hrest, Hz, HO⟩
  iapply Hk
  isplitl [Hp]; · iexact Hp
  isplitl [Hrest]; · iexact Hrest
  isplitl [Hz]; · iexact Hz
  iexact HO

/-! ## Which way the body goes -/

/-- The kernel's two conditions, as the words it computes. -/
theorem cond_eq {a b : BitVec 32} (h : a = b) : Scalar.cmpi .ne (Scalar.extui (Scalar.cmpi .eq a b) : BitVec 32) 0#32 = 1#1 := by
  subst h; simp [Scalar.cmpi, IntOp.cmpi, Scalar.extui]
theorem cond_eq_not {a b : BitVec 32} (h : a ≠ b) : ¬ Scalar.cmpi .ne (Scalar.extui (Scalar.cmpi .eq a b) : BitVec 32) 0#32 = 1#1 := by
  simp [Scalar.cmpi, IntOp.cmpi, Scalar.extui, beq_false_of_ne h]
theorem cond_ne {a b : BitVec 32} (h : a ≠ b) : Scalar.cmpi .ne (Scalar.extui (Scalar.cmpi .ne a b) : BitVec 32) 0#32 = 1#1 := by
  simp [Scalar.cmpi, IntOp.cmpi, Scalar.extui, bne, beq_false_of_ne h]
theorem cond_ne_not {a b : BitVec 32} (h : a = b) : ¬ Scalar.cmpi .ne (Scalar.extui (Scalar.cmpi .ne a b) : BitVec 32) 0#32 = 1#1 := by
  subst h; simp [Scalar.cmpi, IntOp.cmpi, Scalar.extui]

/-- The body on the staging buffers. -/
abbrev theBody : Prog (TpuEff nD τ sig (Elt F) Λ₀ .tc) PUnit :=
  cc0_body xM (Memref.isWhole_whole _) pM (Memref.isWhole_whole _) oM (Memref.isWhole_whole _)
    cc0_scratch0 cc0_scratch1 cc0_scratch2 cc0_scratch3 cc0_scratch4 cc0_scratch5 cc0_scratch6 cc0_scratch7 cc0_scratch8 cc0_scratch9

theorem zeros : (![0, 0, 0] : Fin 3 → Nat) = fun _ => 0 := funext fun a => by fin_cases a <;> rfl

/-- A load of the whole argument's block reads it, -/
theorem read_all (f : Arr F) : xM.view.readAt (Elt F) (Rect.unit (s := S1x1024x1024) ![0, 0, 0] S1x1024x1024.size inb_S1x1024x1024_S1x1024x1024_0_0_0).toLoadRect f = f :=
  Memref.readAt_unit_zero (Elt F) cc0_stg0_0 zeros _ f
/-- and a store to the whole result's block leaves what it stores. -/
theorem write_all (f w : Arr F) :
    (oM.access (Rect.unit (s := S1x1024x1024) ![0, 0, 0] S1x1024x1024.size inb_S1x1024x1024_S1x1024x1024_0_0_0) : View sig .tc _ _ _).write (Elt F) f (k0_pay1 w) Finset.univ = w :=
  (Memref.write_access_unit_zero_univ (Elt F) cc0_stg2_0 zeros _ f (k0_pay1 w)).trans (shapeCast_self _ _)

set_option maxHeartbeats 1600000 in
/-- Where the table names the device's own half, the body copies the device's block. -/
theorem sound_copy (c : Dev nD) (p : S2.Idx → Elt F .i32) (hp : picked (F := F) c p = xWord c) (fo : Arr F) (Q : PUnit → sProp 𝕄) :
    records X false K ⊢ iprop(levAts L lv -∗ xAll c (X c) -∗ pAll c p -∗ oAll c fo -∗ atPos ER (barC c) 0 ∅ 0 -∗ cred (tallyAt (barC c) () 3)
      -∗ (bigSep Finset.univ fun a : Fin 3 => dutyTok ER (barC (nbr a c)) 0 a)
      -∗ owing (F := F) c (dues false)
      -∗ ((xAll c (X c) ∗ pAll c p ∗ oAll c (outAt X false c) ∗ semVal (barC c) 0 ∗ owing (F := F) c []) -∗ Q ⟨⟩)
      -∗ wp frame (wpE (defs₀ (F := F)) 𝒱₀ (c : Thread nD τ) none) Set.univ theBody Q) := by
  unfold theBody
  simp only [cc0_body_eq_skeleton]; unfold cc0_body_skel
  simp only [k0_part19_eq_skeleton]; unfold k0_part19_skel
  simp only [semSignalWord, semWaitWord, smemLoad, smemLoadElt, Prog.lift, Prog.bind_op, Prog.bind_ret, Prog.pure_eq_ret, wp_deviceId]
  iintro #HR #Hlev Hx Hp Ho Hat Hc Ht HO Hk
  iapply (handshake X K false c p _ _ _ (dev1 c) (dev2 c) (dev3 c)) $$ HR Hlev Hp Hat Hc Ht [] HO
  · iempintro
  iintro ⟨Hp, -, Hz, HO⟩
  have e₁ := cond_eq hp
  have e₂ := cond_ne_not hp
  unfold picked xWord at e₁ e₂
  simp only [if_pos e₁, if_neg e₂, Prog.lift, Prog.bind_op, Prog.bind_ret, Prog.pure_eq_ret]
  iapply (wp_load 𝒱₀ (c : Thread nD τ) none Set.univ (m := xM) (Finset.subset_univ _)) $$ Hx; iintro Hx
  rw [read_all]
  iapply (wp_load 𝒱₀ (c : Thread nD τ) none Set.univ (m := oM) (Finset.subset_univ _)) $$ Ho; iintro Ho
  iapply (wp_store 𝒱₀ (c : Thread nD τ) none Set.univ (m := oM)
    (r := Rect.unit (s := S1x1024x1024) ![0, 0, 0] S1x1024x1024.size inb_S1x1024x1024_S1x1024x1024_0_0_0) (Mk := Finset.univ) (Finset.subset_univ _)) $$ Ho; iintro Ho
  rw [write_all, wp_ret]; imodintro
  iapply Hk
  isplitl [Hx]; · iexact Hx
  isplitl [Hp]; · iexact Hp
  isplitl [Ho]
  · rw [show outAt X false c = X c from rfl]; iexact Ho
  isplitl [Hz]; · iexact Hz
  iexact HO

/-! ## The exchange -/

set_option maxHeartbeats 16000000 in
set_option maxRecDepth 65536 in
/-- Where the table names the other half, the body exchanges: sixteen transfers out, sixteen in. -/
theorem sound_exchange (c : Dev nD) (p : S2.Idx → Elt F .i32) (hp : picked (F := F) c p ≠ xWord c) (fo : Arr F) (Q : PUnit → sProp 𝕄) :
    records X true K ⊢ iprop(levAts L lv -∗ xAll c (X c) -∗ pAll c p -∗ oAll c fo -∗ atPos ER (barC c) 0 ∅ 0 -∗ cred (tallyAt (barC c) () 3)
      -∗ (bigSep Finset.univ fun a : Fin 3 => dutyTok ER (barC (nbr a c)) 0 a)
      -∗ (bigSep Finset.univ fun t => ready (F := F) t c) -∗ (bigSep Finset.univ fun t => awaited (F := F) t c)
      -∗ owing (F := F) c (dues true)
      -∗ ((xAll c (X c) ∗ pAll c p ∗ oAll c (outAt X true c) ∗ semVal (barC c) 0
            ∗ (bigSep Finset.univ fun t => semVal (sendC t c) 0) ∗ (bigSep Finset.univ fun t => semVal (recvC t c) 0)
            ∗ owing (F := F) c []) -∗ Q ⟨⟩)
      -∗ wp frame (wpE (defs₀ (F := F)) 𝒱₀ (c : Thread nD τ) none) Set.univ theBody Q) := by
  unfold theBody
  simp only [cc0_body_eq_skeleton]; unfold cc0_body_skel
  simp only [k0_part19_eq_skeleton]; unfold k0_part19_skel
  simp only [semSignalWord, semWaitWord, smemLoad, smemLoadElt, Prog.lift, Prog.bind_op, Prog.bind_ret, Prog.pure_eq_ret, wp_deviceId]
  iintro #HR #Hlev Hx Hp Ho Hat Hc Ht Hrdy Hawt HO Hk
  ihave Ho := (o_rooms c fo) $$ Ho
  iapply (handshake X K true c p _ _ _ (dev1 c) (dev2 c) (dev3 c)) $$ HR Hlev Hp Hat Hc Ht [Ho] HO
  · rw [if_pos rfl]; iexact Ho
  iintro ⟨Hp, Hroom, Hz, HO⟩
  ihave HO := (Entails.of_eq (show owing (F := F) c (if true = true then sends else []) = owing c sends from rfl)) $$ HO
  have e₁ := cond_eq_not hp
  have e₂ := cond_ne hp
  unfold picked xWord at e₁ e₂
  simp only [if_neg e₁, if_pos e₂, Prog.lift, Prog.bind_op, Prog.bind_ret, Prog.pure_eq_ret]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel
  simp only [Prog.lift, Prog.bind_op, Prog.bind_ret, Prog.pure_eq_ret]
  -- the chunks, the rooms and the semaphores one by one
  ihave Hroom := (Entails.of_eq ((rest_bar X c).trans (sixteen _))) $$ Hroom
  icases Hroom with ⟨D0, D1, D2, D3, D4, D5, D6, D7, D8, D9, D10, D11, D12, D13, D14, D15⟩
  ihave Hx := (Entails.of_eq ((x_chunks X c).trans (sixteen _))) $$ Hx
  icases Hx with ⟨X0, X1, X2, X3, Hxr⟩
  ihave X0 := (Entails.of_eq (pay_x X c 0 (by decide))) $$ X0
  ihave X1 := (Entails.of_eq (pay_x X c 1 (by decide))) $$ X1
  ihave X2 := (Entails.of_eq (pay_x X c 2 (by decide))) $$ X2
  ihave X3 := (Entails.of_eq (pay_x X c 3 (by decide))) $$ X3
  ihave Hrdy := (Entails.of_eq (sixteen fun t => ready (F := F) t c)) $$ Hrdy
  icases Hrdy with ⟨S0, S1, S2, S3, S4, S5, S6, S7, S8, S9, S10, S11, S12, S13, S14, S15⟩
  ihave Hawt := (Entails.of_eq (sixteen fun t => awaited (F := F) t c)) $$ Hawt
  icases Hawt with ⟨A0, A1, A2, A3, A4, A5, A6, A7, A8, A9, A10, A11, A12, A13, A14, A15⟩
  -- the home quarter across x
  iapply (step_send X K 0 c _ (dev4 c) (slice_eq xM (off_home c 0 (by decide)) _) (slice_eq oM (off_home c 0 (by decide)) _) rfl rfl _) $$ HR S0 X0 D0 HO
  iintro ⟨S0, HO⟩
  iapply (step_send X K 1 c _ (dev5 c) (slice_eq xM (off_home c 1 (by decide)) _) (slice_eq oM (off_home c 1 (by decide)) _) rfl rfl _) $$ HR S1 X1 D1 HO
  iintro ⟨S1, HO⟩
  iapply (step_send X K 2 c _ (dev6 c) (slice_eq xM (off_home c 2 (by decide)) _) (slice_eq oM (off_home c 2 (by decide)) _) rfl rfl _) $$ HR S2 X2 D2 HO
  iintro ⟨S2, HO⟩
  iapply (step_send X K 3 c _ (dev7 c) (slice_eq xM (off_home c 3 (by decide)) _) (slice_eq oM (off_home c 3 (by decide)) _) rfl rfl _) $$ HR S3 X3 D3 HO
  iintro ⟨S3, HO⟩
  -- what arrives across x goes on to both other neighbours
  iapply (step_recv X K 0 c rfl _ (by decide)) $$ HR Hlev A0 HO
  iintro ⟨A0, R0, HO⟩
  ihave A0 := (show recvPay X 0 c ⊢ iprop(sendPay X 4 c ∗ sendPay X 8 c) from (pay_home X c 0).1) $$ A0
  icases A0 with ⟨X4, X8⟩
  iapply (step_send X K 4 c _ (dev8 c) (slice_eq oM (off_home c 4 (by decide)) _) (slice_eq oM (off_home c 4 (by decide)) _) rfl rfl _) $$ HR S4 X4 D4 HO
  iintro ⟨S4, HO⟩
  iapply (step_send X K 8 c _ (dev9 c) (slice_eq oM (off_home c 8 (by decide)) _) (slice_eq oM (off_home c 8 (by decide)) _) rfl rfl _) $$ HR S8 X8 D8 HO
  iintro ⟨S8, HO⟩
  iapply (step_recv X K 1 c rfl _ (by decide)) $$ HR Hlev A1 HO
  iintro ⟨A1, R1, HO⟩
  ihave A1 := (show recvPay X 1 c ⊢ iprop(sendPay X 5 c ∗ sendPay X 9 c) from (pay_home X c 1).1) $$ A1
  icases A1 with ⟨X5, X9⟩
  iapply (step_send X K 5 c _ (dev10 c) (slice_eq oM (off_home c 5 (by decide)) _) (slice_eq oM (off_home c 5 (by decide)) _) rfl rfl _) $$ HR S5 X5 D5 HO
  iintro ⟨S5, HO⟩
  iapply (step_send X K 9 c _ (dev11 c) (slice_eq oM (off_home c 9 (by decide)) _) (slice_eq oM (off_home c 9 (by decide)) _) rfl rfl _) $$ HR S9 X9 D9 HO
  iintro ⟨S9, HO⟩
  iapply (step_recv X K 2 c rfl _ (by decide)) $$ HR Hlev A2 HO
  iintro ⟨A2, R2, HO⟩
  ihave A2 := (show recvPay X 2 c ⊢ iprop(sendPay X 6 c ∗ sendPay X 10 c) from (pay_home X c 2).1) $$ A2
  icases A2 with ⟨X6, X10⟩
  iapply (step_send X K 6 c _ (dev12 c) (slice_eq oM (off_home c 6 (by decide)) _) (slice_eq oM (off_home c 6 (by decide)) _) rfl rfl _) $$ HR S6 X6 D6 HO
  iintro ⟨S6, HO⟩
  iapply (step_send X K 10 c _ (dev13 c) (slice_eq oM (off_home c 10 (by decide)) _) (slice_eq oM (off_home c 10 (by decide)) _) rfl rfl _) $$ HR S10 X10 D10 HO
  iintro ⟨S10, HO⟩
  iapply (step_recv X K 3 c rfl _ (by decide)) $$ HR Hlev A3 HO
  iintro ⟨A3, R3, HO⟩
  ihave A3 := (show recvPay X 3 c ⊢ iprop(sendPay X 7 c ∗ sendPay X 11 c) from (pay_home X c 3).1) $$ A3
  icases A3 with ⟨X7, X11⟩
  iapply (step_send X K 7 c _ (dev14 c) (slice_eq oM (off_home c 7 (by decide)) _) (slice_eq oM (off_home c 7 (by decide)) _) rfl rfl _) $$ HR S7 X7 D7 HO
  iintro ⟨S7, HO⟩
  iapply (step_send X K 11 c _ (dev15 c) (slice_eq oM (off_home c 11 (by decide)) _) (slice_eq oM (off_home c 11 (by decide)) _) rfl rfl _) $$ HR S11 X11 D11 HO
  iintro ⟨S11, HO⟩
  -- the second hops
  iapply (step_recv X K 8 c rfl _ (by decide)) $$ HR Hlev A8 HO
  iintro ⟨A8, R8, HO⟩
  ihave X12 := (Entails.of_eq (show recvPay X 8 c = sendPay X 12 c from pay_y2 X c 0)) $$ A8
  iapply (step_send X K 12 c _ (dev16 c) (slice_eq oM (off_y2 c 0) _) (slice_eq oM (off_y2 c 0) _) rfl rfl _) $$ HR S12 X12 D12 HO
  iintro ⟨S12, HO⟩
  iapply (step_recv X K 9 c rfl _ (by decide)) $$ HR Hlev A9 HO
  iintro ⟨A9, R9, HO⟩
  ihave X13 := (Entails.of_eq (show recvPay X 9 c = sendPay X 13 c from pay_y2 X c 1)) $$ A9
  iapply (step_send X K 13 c _ (dev17 c) (slice_eq oM (off_y2 c 1) _) (slice_eq oM (off_y2 c 1) _) rfl rfl _) $$ HR S13 X13 D13 HO
  iintro ⟨S13, HO⟩
  iapply (step_recv X K 6 c rfl _ (by decide)) $$ HR Hlev A6 HO
  iintro ⟨A6, R6, HO⟩
  ihave X14 := (Entails.of_eq (show recvPay X 6 c = sendPay X 14 c from pay_z2 X c 0)) $$ A6
  iapply (step_send X K 14 c _ (dev18 c) (slice_eq oM (off_z2 c 0) _) (slice_eq oM (off_z2 c 0) _) rfl rfl _) $$ HR S14 X14 D14 HO
  iintro ⟨S14, HO⟩
  iapply (step_recv X K 7 c rfl _ (by decide)) $$ HR Hlev A7 HO
  iintro ⟨A7, R7, HO⟩
  ihave X15 := (Entails.of_eq (show recvPay X 7 c = sendPay X 15 c from pay_z2 X c 1)) $$ A7
  iapply (step_send X K 15 c _ (dev19 c) (slice_eq oM (off_z2 c 1) _) (slice_eq oM (off_z2 c 1) _) rfl rfl _) $$ HR S15 X15 D15 HO
  iintro ⟨S15, HO⟩
  -- the other arrivals
  iapply (step_recv X K 4 c rfl _ (by decide)) $$ HR Hlev A4 HO
  iintro ⟨A4, R4, HO⟩
  iapply (step_recv X K 5 c rfl _ (by decide)) $$ HR Hlev A5 HO
  iintro ⟨A5, R5, HO⟩
  iapply (step_recv X K 10 c rfl _ (by decide)) $$ HR Hlev A10 HO
  iintro ⟨A10, R10, HO⟩
  iapply (step_recv X K 11 c rfl _ (by decide)) $$ HR Hlev A11 HO
  iintro ⟨A11, R11, HO⟩
  iapply (step_recv X K 12 c rfl _ (by decide)) $$ HR Hlev A12 HO
  iintro ⟨A12, R12, HO⟩
  iapply (step_recv X K 13 c rfl _ (by decide)) $$ HR Hlev A13 HO
  iintro ⟨A13, R13, HO⟩
  iapply (step_recv X K 14 c rfl _ (by decide)) $$ HR Hlev A14 HO
  iintro ⟨A14, R14, HO⟩
  iapply (step_recv X K 15 c rfl _ (by decide)) $$ HR Hlev A15 HO
  iintro ⟨A15, R15, HO⟩
  -- the sends
  iapply (step_sent X K 0 c rfl) $$ HR S0 HO
  iintro ⟨X0, S0, HO⟩
  iapply (step_sent X K 1 c rfl) $$ HR S1 HO
  iintro ⟨X1, S1, HO⟩
  iapply (step_sent X K 2 c rfl) $$ HR S2 HO
  iintro ⟨X2, S2, HO⟩
  iapply (step_sent X K 3 c rfl) $$ HR S3 HO
  iintro ⟨X3, S3, HO⟩
  iapply (step_sent X K 4 c rfl) $$ HR S4 HO
  iintro ⟨X4, S4, HO⟩
  iapply (step_sent X K 8 c rfl) $$ HR S8 HO
  iintro ⟨X8, S8, HO⟩
  iapply (step_sent X K 5 c rfl) $$ HR S5 HO
  iintro ⟨X5, S5, HO⟩
  iapply (step_sent X K 9 c rfl) $$ HR S9 HO
  iintro ⟨X9, S9, HO⟩
  iapply (step_sent X K 6 c rfl) $$ HR S6 HO
  iintro ⟨X6, S6, HO⟩
  iapply (step_sent X K 10 c rfl) $$ HR S10 HO
  iintro ⟨X10, S10, HO⟩
  iapply (step_sent X K 7 c rfl) $$ HR S7 HO
  iintro ⟨X7, S7, HO⟩
  iapply (step_sent X K 11 c rfl) $$ HR S11 HO
  iintro ⟨X11, S11, HO⟩
  iapply (step_sent X K 12 c rfl) $$ HR S12 HO
  iintro ⟨X12, S12, HO⟩
  iapply (step_sent X K 13 c rfl) $$ HR S13 HO
  iintro ⟨X13, S13, HO⟩
  iapply (step_sent X K 14 c rfl) $$ HR S14 HO
  iintro ⟨X14, S14, HO⟩
  iapply (step_sent X K 15 c rfl) $$ HR S15 HO
  iintro ⟨X15, S15, HO⟩
  -- the chunks back together
  ihave A0 := (show iprop(sendPay X 4 c ∗ sendPay X 8 c) ⊢ recvPay X 0 c from (pay_home X c 0).2) $$ [X4 X8]
  · isplitl [X4] <;> iassumption
  ihave A1 := (show iprop(sendPay X 5 c ∗ sendPay X 9 c) ⊢ recvPay X 1 c from (pay_home X c 1).2) $$ [X5 X9]
  · isplitl [X5] <;> iassumption
  ihave A2 := (show iprop(sendPay X 6 c ∗ sendPay X 10 c) ⊢ recvPay X 2 c from (pay_home X c 2).2) $$ [X6 X10]
  · isplitl [X6] <;> iassumption
  ihave A3 := (show iprop(sendPay X 7 c ∗ sendPay X 11 c) ⊢ recvPay X 3 c from (pay_home X c 3).2) $$ [X7 X11]
  · isplitl [X7] <;> iassumption
  ihave A8 := (Entails.of_eq (show sendPay X 12 c = recvPay X 8 c from (pay_y2 X c 0).symm)) $$ X12
  ihave A6 := (Entails.of_eq (show sendPay X 14 c = recvPay X 6 c from (pay_z2 X c 0).symm)) $$ X14
  ihave A9 := (Entails.of_eq (show sendPay X 13 c = recvPay X 9 c from (pay_y2 X c 1).symm)) $$ X13
  ihave A7 := (Entails.of_eq (show sendPay X 15 c = recvPay X 7 c from (pay_z2 X c 1).symm)) $$ X15
  ihave X0 := (Entails.of_eq (pay_x X c 0 (by decide)).symm) $$ X0
  ihave X1 := (Entails.of_eq (pay_x X c 1 (by decide)).symm) $$ X1
  ihave X2 := (Entails.of_eq (pay_x X c 2 (by decide)).symm) $$ X2
  ihave X3 := (Entails.of_eq (pay_x X c 3 (by decide)).symm) $$ X3
  rw [wp_ret]; imodintro
  iapply Hk
  isplitl [X0 X1 X2 X3 Hxr]
  · rw [x_chunks, sixteen]
    isplitl [X0]; · iexact X0
    isplitl [X1]; · iexact X1
    isplitl [X2]; · iexact X2
    isplitl [X3]; · iexact X3
    iexact Hxr
  isplitl [Hp]; · iexact Hp
  isplitl [A0 A1 A2 A3 A4 A5 A6 A7 A8 A9 A10 A11 A12 A13 A14 A15]
  · rw [show oAll c (outAt X true c) = bigSep Finset.univ fun t => recvPay X t c from o_chunks c _, sixteen]
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    iexact A15
  isplitl [Hz]; · iexact Hz
  isplitl [S0 S1 S2 S3 S4 S5 S6 S7 S8 S9 S10 S11 S12 S13 S14 S15]
  · rw [sixteen]
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact S15
  isplitl [R0 R1 R2 R3 R4 R5 R6 R7 R8 R9 R10 R11 R12 R13 R14 R15]
  · rw [sixteen]
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  iexact HO

/-! ## Both ways at once -/

/-- That the table sends device `c` across x (`sw`), or back to itself. -/
def Picks (sw : Bool) (c : Dev nD) (p : S2.Idx → Elt F .i32) : Prop := if sw then picked (F := F) c p ≠ xWord c else picked (F := F) c p = xWord c

omit [FloatOps F] in
/-- One conjunct for every semaphore of the kernel's own, the sends' and the receives'. -/
theorem both (Φ : Fin 16 ⊕ Fin 16 → sProp 𝕄) :
    bigSep Finset.univ Φ = iprop((bigSep Finset.univ fun t => Φ (.inl t)) ∗ bigSep Finset.univ fun t => Φ (.inr t)) := bigSep_univ_sum Φ

omit [FloatOps F] in
/-- A persistent fact serves every conjunct. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What device `c` starts from besides its blocks: its places at its cells, the right to pay its duties, and what it is
    to be paid: three barrier units, and in an exchange the sixteen arrivals. -/
def hand (sw : Bool) (c : Dev nD) : sProp 𝕄 :=
  iprop(atPos ER (barC c) 0 ∅ 0 ∗ (bigSep Finset.univ fun a : Fin 3 => dutyTok ER (barC (nbr a c)) 0 a)
    ∗ (bigSep Finset.univ fun t => ready (F := F) t c) ∗ (bigSep Finset.univ fun t => atPos ER (recvC t c) 0 ∅ 0)
    ∗ cred (tallyAt (barC c) () 3) ∗ (if sw then bigSep Finset.univ fun t => cred (tallyAt (recvC t c) () N) else iprop(emp)))
/-- A device's semaphores at zero. -/
def closed (c : Dev nD) : sProp 𝕄 :=
  iprop(semVal (barC c) 0 ∗ bigSep Finset.univ fun k => semVal (kcell (c, .inr k)) 0)

/-- The body from the hand the launch deals: the result's block at its value, the semaphores at zero, nothing owed. -/
theorem sound_body (sw : Bool) (c : Dev nD) (p : S2.Idx → Elt F .i32) (hp : Picks sw c p) (fo : Arr F) (Q : PUnit → sProp 𝕄) :
    records X sw K ⊢ iprop(levAts L lv -∗ xAll c (X c) -∗ pAll c p -∗ oAll c fo -∗ hand (F := F) sw c -∗ owing (F := F) c (dues sw)
      -∗ ((xAll c (X c) ∗ pAll c p ∗ oAll c (outAt X sw c) ∗ closed (F := F) c ∗ owing (F := F) c []) -∗ Q ⟨⟩)
      -∗ wp frame (wpE (defs₀ (F := F)) 𝒱₀ (c : Thread nD τ) none) Set.univ theBody Q) := by
  unfold hand closed
  cases sw
  · iintro #HR #Hlev Hx Hp Ho ⟨Hat, Ht, Hrdy, HatR, Hc, -⟩ HO Hk
    have hclose : iprop(records X false K ∗ bigSep Finset.univ fun k : Fin 16 ⊕ Fin 16 => atPos ER (kcell (c, .inr k)) 0 ∅ 0)
        ⊢ (|={Set.univ}=> bigSep Finset.univ fun k => semVal (kcell (c, .inr k)) 0 : sProp 𝕄) :=
      (bigSep_with fun k _ => close_idle X K c k).trans (bigSep_fupd _ _)
    have hsend : (bigSep Finset.univ fun t => ready (F := F) t c) ⊢ bigSep Finset.univ fun t => (atPos ER (sendC t c) 0 ∅ 0 : sProp 𝕄) :=
      bigSep_mono fun t _ => by
        show ready (F := F) t c ⊢ atPos ER (sendC t c) 0 ∅ 0
        unfold ready; iintro ⟨H, -⟩; iexact H
    ihave HatS := hsend $$ Hrdy
    imod hclose $$ [HatS HatR] with Hzs
    · isplitr; · iexact HR
      rw [both]
      isplitl [HatS]; · iexact HatS
      iexact HatR
    iapply (sound_copy X K c p hp fo Q) $$ HR Hlev Hx Hp Ho Hat Hc Ht HO
    iintro ⟨Hx, Hp, Ho, Hz, HO⟩
    iapply Hk
    isplitl [Hx]; · iexact Hx
    isplitl [Hp]; · iexact Hp
    isplitl [Ho]; · iexact Ho
    isplitl [Hz Hzs]
    · isplitl [Hz] <;> iassumption
    iexact HO
  · iintro #HR #Hlev Hx Hp Ho ⟨Hat, Ht, Hrdy, HatR, Hc, HcR⟩ HO Hk
    ihave HcR := (show iprop(if true = true then bigSep Finset.univ fun t => cred (tallyAt (recvC t c) () N) else iprop(emp))
        ⊢ (bigSep Finset.univ fun t => cred (tallyAt (recvC t c) () N) : sProp 𝕄) from Entails.of_eq (if_pos rfl)) $$ HcR
    iapply (sound_exchange X K c p hp fo Q) $$ HR Hlev Hx Hp Ho Hat Hc Ht Hrdy [HatR HcR] HO
    · unfold awaited; rw [bigSep_sep']
      isplitl [HatR]; · iexact HatR
      iexact HcR
    iintro ⟨Hx, Hp, Ho, Hz, HzS, HzR, HO⟩
    iapply Hk
    isplitl [Hx]; · iexact Hx
    isplitl [Hp]; · iexact Hp
    isplitl [Ho]; · iexact Ho
    isplitl [Hz HzS HzR]
    · isplitl [Hz]; · iexact Hz
      rw [both]
      isplitl [HzS]; · iexact HzS
      iexact HzR
    iexact HO

end Cert.Exchange

end
-- ==== Proof.Run.lean ====
/-
# The run

The launch deals every device its places, duties and credits, allocates the cells' invariants for all devices under one
update, and runs the body on each. What comes out: every execution terminates with each device's result at `outAt` of
the devices' arguments, the arguments as they were and every semaphore at zero — when the table sends every device
across x, and when it sends every device back to itself.
-/
module

public import proofs.«01_k».proof.Proof.Body
public import proofs.«01_k».proof.Proof.Gen.KernelIdeal.Points
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## Dealing ghost state, whatever the arguments -/

section Deal

variable (X : Dev nD → Arr F) (sw : Bool)

/-- A device's duties: its barrier's three, and one at each semaphore of its own. -/
abbrev Tk : Type := Fin 3 ⊕ (Fin 16 ⊕ Fin 16)
def tkCk : Tk → Ck
  | .inl _ => .inl ()
  | .inr k => .inr k
def tkName : Tk → Fin 3
  | .inl a => a
  | .inr _ => 0
def tokOf (cj : Dev nD × Tk) : GSem nD τ sig × ℕ × Fin 3 := (kcell (cj.1, tkCk cj.2), 0, tkName cj.2)

theorem tokOf_injective : Function.Injective tokOf := by
  rintro ⟨c, j⟩ ⟨c', j'⟩ h
  have h1 : (c, tkCk j) = (c', tkCk j') := kcell_injective (congrArg Prod.fst h)
  have h2 : tkName j = tkName j' := congrArg (fun x : GSem nD τ sig × ℕ × Fin 3 => x.2.2) h
  have h3 : tkCk j = tkCk j' := congrArg Prod.snd h1
  have hc : c = c' := congrArg Prod.fst h1
  have hj : j = j' := by
    cases j <;> cases j' <;> simp only [tkCk, tkName, reduceCtorEq, Sum.inr.injEq] at h2 h3 <;> subst_vars <;> rfl
  rw [hc, hj]

def exCells : Finset (GSem nD τ sig) := Finset.univ.map ⟨kcell, kcell_injective⟩
def exToks : Finset (GSem nD τ sig × ℕ × Fin 3) := Finset.univ.map ⟨tokOf, tokOf_injective⟩

def u₀ : UU :=
  (initOf (Pipeline.cells cfgs cellOf_inj) (Pipeline.launchToks cfgs cellOf_inj), initOf exCells exToks)

/-- The duties at device `c`'s own cells, as minted. -/
def toks (c : Dev nD) : sProp 𝕄 :=
  iprop((bigSep Finset.univ fun a : Fin 3 => dutyTok ER (barC c) 0 a)
    ∗ (bigSep Finset.univ fun t => dutyTok ER (sendC t c) 0 0) ∗ bigSep Finset.univ fun t => dutyTok ER (recvC t c) 0 0)

/-- What the launch element deals device `c`. -/
def G (c : Dev nD) : sProp 𝕄 :=
  iprop((bigSep Finset.univ fun k : Ck => roundState ER (plan X sw) (kcell (c, k)) 0)
    ∗ (bigSep Finset.univ fun k : Ck => iprop(atPos ER (kcell (c, k)) 0 ∅ 0 ∗ reached ER (kcell (c, k)) 0)) ∗ toks c)

omit [FloatOps F] in
/-- The launch element is every device's deal. -/
theorem fund_exchange : BI.own (ER (initOf exCells exToks)) ⊢ (|==> bigSep Finset.univ (G X sw) : sProp 𝕄) := by
  have hX (Φ : GSem nD τ sig → sProp 𝕄) : bigSep exCells Φ = bigSep Finset.univ fun c : Dev nD => bigSep Finset.univ fun k : Ck => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (plan X sw) exCells exToks) $$ HX with ⟨Hst, Hr, Hat, Htok⟩
  imodintro
  ihave Hst := (Entails.of_eq (hX fun g => roundState ER (plan X sw) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
/-- One conjunct for every cell of a device: its barrier's beside the others. -/
theorem cells_split (Φ : Ck → sProp 𝕄) : bigSep Finset.univ Φ = iprop(Φ (.inl ()) ∗ bigSep Finset.univ fun k => Φ (.inr k)) := by
  rw [bigSep_univ_sum, bigSep_univ_of_subsingleton ()]; rfl

omit [FloatOps F] in
theorem unscoped_eq (c : Dev nD) : (unscopedSems0 c : sProp 𝕄) = semVal (barC c) 0 := by
  unfold unscopedSems0; rw [bigSep_eq_bigSepL_of_eq [SemLoc.reg barS] (by decide) (by decide)]; rfl

/-- A device's semaphores at the launch. -/
abbrev sems0 (c : Dev nD) : sProp 𝕄 := Pipeline.ownSems0 (Ix := Unit) (Name := ℕ) (U := UU) (Lvl := ℕ) (Val := Elt F) (τ := τ) osem c

omit [FloatOps F] in
/-- One device's cells get their invariants. -/
theorem core_alloc (c : Dev nD) :
    iprop(sems0 (F := F) c ∗ unscopedSems0 c ∗ G X sw c)
      ⊢ |={Set.univ}=> iprop((bigSep Finset.univ fun k : Ck => iprop(∃ κ : ℕ, cellInv ER (plan X sw) κ (kcell (c, k))))
          ∗ (bigSep Finset.univ fun k : Ck => iprop(atPos ER (kcell (c, k)) 0 ∅ 0 ∗ reached ER (kcell (c, k)) 0)) ∗ toks c) := by
  have hall : iprop((bigSep Finset.univ fun k : Ck => semVal (kcell (c, k)) 0) ∗ bigSep Finset.univ fun k : Ck => roundState ER (plan X sw) (kcell (c, k)) 0)
      ⊢ (|={Set.univ}=> bigSep Finset.univ fun k => iprop(∃ κ : ℕ, cellInv ER (plan X sw) κ (kcell (c, k))) : sProp 𝕄) := by
    rw [← bigSep_sep']
    exact (bigSep_mono fun k _ => (Rounds.body_intro ER (plan X sw) (kcell (c, k))).trans inv_alloc).trans (bigSep_fupd _ _)
  unfold G
  rw [unscoped_eq]
  iintro ⟨Hos, Hus, Hst, Hat, Htok⟩
  imod hall $$ [Hos Hus Hst] with Hinv
  · isplitl [Hos Hus]
    · rw [cells_split]
      isplitl [Hus]; · iexact Hus
      iapply (show sems0 (F := F) c ⊢ bigSep Finset.univ fun k => semVal (kcell (c, .inr k)) 0 from Entails.of_eq rfl)
      iexact Hos
    iexact Hst
  imodintro
  isplitl [Hinv]; · iexact Hinv
  isplitl [Hat]; · iexact Hat
  iexact Htok

/-- Device `c`'s places and the duties it pays: at its neighbours' barriers, at its own sends, at its neighbours' receives. -/
def own (c : Dev nD) : sProp 𝕄 :=
  iprop((bigSep Finset.univ fun k : Ck => atPos ER (kcell (c, k)) 0 ∅ 0)
    ∗ (bigSep Finset.univ fun a : Fin 3 => dutyTok ER (barC (nbr a c)) 0 a)
    ∗ (bigSep Finset.univ fun t => dutyTok ER (sendC t c) 0 0) ∗ bigSep Finset.univ fun t => dutyTok ER (recvC t (nbr (axis t) c)) 0 0)

/-- What the launch's global step makes for device `c`. -/
def G' (c : Dev nD) : sProp 𝕄 := iprop(∃ K, records X sw K ∗ own c)

omit [FloatOps F] in
/-- Every device's duty for a neighbour, gathered by who holds it or by whom it is for. -/
theorem deal {J : Type} [Fintype J] (ax : J → Fin 3) (Φ : J → Dev nD → sProp 𝕄) :
    (bigSep Finset.univ fun c : Dev nD => bigSep Finset.univ fun j : J => Φ j c)
      = bigSep Finset.univ fun c : Dev nD => bigSep Finset.univ fun j : J => Φ j (nbr (ax j) c) := by
  rw [bigSep_univ_comm, bigSep_univ_comm (fun (c : Dev nD) (j : J) => Φ j (nbr (ax j) c))]
  exact bigSep_congr fun j _ => bigSep_univ_equiv (flip (ax j)) (Φ j)

omit [FloatOps F] in
/-- The invariants become records everyone reads, the duties go to who pays them. -/
theorem regroup :
    (bigSep Finset.univ fun c : Dev nD => iprop((bigSep Finset.univ fun k : Ck => iprop(∃ κ : ℕ, cellInv ER (plan X sw) κ (kcell (c, k))))
          ∗ (bigSep Finset.univ fun k : Ck => iprop(atPos ER (kcell (c, k)) 0 ∅ 0 ∗ reached ER (kcell (c, k)) 0)) ∗ toks c) : sProp 𝕄)
      ⊢ bigSep Finset.univ (G' X sw) := by
  have hown : iprop((bigSep Finset.univ fun c : Dev nD => bigSep Finset.univ fun k : Ck => atPos ER (kcell (c, k)) 0 ∅ 0)
      ∗ bigSep Finset.univ fun c : Dev nD => toks (F := F) c) ⊢ (bigSep Finset.univ fun c : Dev nD => own c : sProp 𝕄) := by
    unfold toks own
    simp only [bigSep_sep']
    rw [deal id fun a c => (dutyTok ER (barC c) 0 a : sProp 𝕄), deal axis fun t c => (dutyTok ER (recvC t c) 0 0 : sProp 𝕄)]
    exact Entails.of_eq rfl
  rw [bigSep_sep', bigSep_sep', ← bigSep_univ_prod (fun ck : Dev nD × Ck => iprop(∃ κ : ℕ, cellInv ER (plan X sw) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄))]
  iintro ⟨HI, ⟨Hat, #HR⟩, Htok⟩
  ihave HK := (BI.bigSep_exists_pi Finset.univ (fun (ck : Dev nD × Ck) (κ : ℕ) => (cellInv ER (plan X sw) κ (kcell ck) : sProp 𝕄))) $$ HI
  icases HK with ⟨%K, #HI⟩
  ihave Hown := hown $$ [Hat Htok]
  · isplitl [Hat] <;> iassumption
  iapply (bigSep_with (R := records X sw K) (Φ := fun c => own (F := F) c) fun c _ => show iprop(records X sw K ∗ own c) ⊢ G' X sw c by
    unfold G'; iintro H; iexists K; iexact H)
  isplitr
  · unfold records; isplitl; · iexact HI
    iexact HR
  · iexact Hown

omit [FloatOps F] in
/-- The global step: every device's semaphores at once. -/
theorem glob : (bigSep Finset.univ fun c => iprop(sems0 (F := F) c ∗ unscopedSems0 c ∗ G X sw c) : sProp 𝕄)
    ⊢ |={Set.univ}=> bigSep Finset.univ (G' X sw) :=
  ((bigSep_mono fun c _ => core_alloc X sw c).trans (bigSep_fupd _ _)).trans (BI.fupd_mono (regroup X sw))

end Deal

/-! ## The launch credit -/

section Credit

/-- What a device owes at a cell is its dues there, added up. -/
theorem owed_apply (d : Dev nD) (g : GSem nD τ sig) (l : List Due) :
    owed d l g () = (l.map fun p => if g = dueCell d p then dueAmt p else 0).sum := by
  induction l with
  | nil => rfl
  | cons p l ih =>
    unfold owed
    rw [Pi.add_apply, Finsupp.add_apply, tallyAt_apply, ih, List.map_cons, List.sum_cons, Nat.add_comm]
    congr 1
    by_cases h : g = dueCell d p
    · rw [if_pos ⟨h, rfl⟩, if_pos h]
    · rw [if_neg fun h' => h h'.1, if_neg h]

/-- A due is paid to each device by one device, its neighbour along the due's axis. -/
theorem due_once (c : Dev nD) (k : Ck) (p : Due) :
    (∑ d : Dev nD, if kcell (c, k) = dueCell d p then dueAmt p else 0) = if dueCk p = k then dueAmt p else 0 := by
  have e (d : Dev nD) : kcell (c, k) = dueCell d p ↔ d = nbr (dueAxis p) c ∧ dueCk p = k := by
    constructor
    · intro h
      have h' := kcell_injective h
      have h1 : c = nbr (dueAxis p) d := congrArg Prod.fst h'
      exact ⟨by rw [h1, nbr_nbr], (congrArg Prod.snd h').symm⟩
    · rintro ⟨rfl, rfl⟩
      show kcell (c, _) = kcell (_, _)
      rw [nbr_nbr]
  by_cases h : dueCk p = k
  · rw [if_pos h, Finset.sum_congr rfl fun d _ => if_congr ((e d).trans (and_iff_left h)) rfl rfl,
      Finset.sum_ite_eq' Finset.univ, if_pos (Finset.mem_univ _)]
  · rw [if_neg h]
    exact Finset.sum_eq_zero fun d _ => if_neg fun h' => h ((e d).mp h').2

/-- So what all devices owe at a cell is the dues of its kind. -/
theorem owed_sum (c : Dev nD) (k : Ck) (l : List Due) :
    (∑ d : Dev nD, owed d l (kcell (c, k)) ()) = (l.map fun p => if dueCk p = k then dueAmt p else 0).sum := by
  rw [Finset.sum_congr rfl fun d _ => owed_apply d _ l]
  induction l with
  | nil => exact Finset.sum_eq_zero fun _ _ => rfl
  | cons p l ih => simp only [List.map_cons, List.sum_cons, Finset.sum_add_distrib, ih, due_once]

/-- The credit a cell is launched with, when the dues of its kind come to `n`. -/
theorem launch_at (sw : Bool) (c : Dev nD) (k : Ck) {n : ℕ} (h : ((dues sw).map fun p => if dueCk p = k then dueAmt p else 0).sum = n) :
    tallyOn (kcell (c, k)) (launchCredit (Pipeline.owing fun d => owed d (dues sw)) 0 (kcell (c, k)))
      = (tallyAt (kcell (c, k)) () n : CellTallies nD τ sig Unit) := by
  unfold tallyAt; refine congrArg _ (Finsupp.ext fun u => ?_); cases u
  rw [Pipeline.launchCredit_owing, Finsupp.single_eq_same, owed_sum, h]

theorem dues_bar (sw : Bool) : ((dues sw).map fun p => if dueCk p = .inl () then dueAmt p else 0).sum = 3 := by
  cases sw <;> simp [dues, sends, dueCk, dueAmt]
theorem dues_recv (t : Fin 16) : ((dues true).map fun p => if dueCk p = .inr (.inr t) then dueAmt p else 0).sum = N := by
  fin_cases t <;> simp [dues, sends, dueCk, dueAmt]

/-- The cells a device is credited at: its barrier and its receives. -/
def paid : Unit ⊕ Fin 16 → Ck
  | .inl _ => .inl ()
  | .inr t => .inr (.inr t)
theorem paid_injective : Function.Injective (csem ∘ paid) := by decide

/-- Device `c` is credited its barrier's three units, and in an exchange every arrival. -/
theorem creds (sw : Bool) (c : Dev nD) :
    (Pipeline.launchCred (fun d => owed d (dues sw)) c : sProp 𝕄)
      ⊢ iprop(cred (tallyAt (barC c) () 3) ∗ (if sw then bigSep Finset.univ fun t => cred (tallyAt (recvC t c) () N) else iprop(emp))) := by
  have hsub := BI.bigSep_subset (Finset.subset_univ (Finset.univ.map ⟨csem ∘ paid, paid_injective⟩))
    (Φ := fun sm : SemLoc sig => (cred (tallyOn ((c.tc : Thread nD τ), sm)
      (launchCredit (Pipeline.owing fun d => owed d (dues sw)) 0 ((c.tc : Thread nD τ), sm))) : sProp 𝕄))
  rw [bigSep_map, bigSep_univ_sum, bigSep_univ_of_subsingleton ()] at hsub
  refine hsub.trans ?_
  refine BIClass.sep_mono (Entails.of_eq (congrArg cred (launch_at sw c (.inl ()) (dues_bar sw)))) ?_
  cases sw
  · exact Laws.affine
  · rw [if_pos rfl]
    exact bigSep_mono fun t _ => Entails.of_eq (congrArg cred (launch_at true c (.inr (.inr t)) (dues_recv t)))

end Credit

/-! ## The blocks are the arrays -/

section Whole

omit [FloatOps F] in
/-- A window's one block is its whole array: an index of the block is the same index of the array. -/
theorem emb_x (i : S1x1024x1024.Idx) : (win0_0.blk t0_0).view.emb i = i :=
  funext fun a => Fin.ext (Pipeline.Window.rect_emb_val_of_index_zero win0_0 t0_0 a rfl i)
omit [FloatOps F] in
theorem emb_p (i : S2.Idx) : (win0_1.blk t0_0).view.emb i = i :=
  funext fun a => Fin.ext (Pipeline.Window.rect_emb_val_of_index_zero win0_1 t0_0 a rfl i)
omit [FloatOps F] in
theorem emb_o (i : S1x1024x1024.Idx) : (win0_2.blk t0_0).view.emb i = i :=
  funext fun a => Fin.ext (Pipeline.Window.rect_emb_val_of_index_zero win0_2 t0_0 a rfl i)

omit [FloatOps F] in
theorem read_x (f : Arr F) : (win0_0.blk t0_0).view.read (Elt F) f = f :=
  funext fun i => by rw [View.read_apply]; exact congrArg f (emb_x i)
omit [FloatOps F] in
theorem read_p (f : S2.Idx → Elt F .i32) : (win0_1.blk t0_0).view.read (Elt F) f = f :=
  funext fun i => by rw [View.read_apply]; exact congrArg f (emb_p i)
omit [FloatOps F] in
theorem read_o (f : Arr F) : (win0_2.blk t0_0).view.read (Elt F) f = f :=
  funext fun i => by rw [View.read_apply]; exact congrArg f (emb_o i)

end Whole

/-! ## The launch -/

section Launch

variable (m : (ℓ : Loc nD τ sig) → Buf (Elt F) ℓ) (ρ : Dev nD → PrngReg) (sw : Bool)

/-- The devices' arguments, and their tables. -/
def args (c : Dev nD) : Arr F := m ((c : Thread nD τ).loc main_arg0)
def tables (c : Dev nD) : S2.Idx → Elt F .i32 := m ((c : Thread nD τ).loc main_arg1)

/-- What device `c`'s body starts from besides its blocks. -/
def start (c : Dev nD) : sProp 𝕄 := iprop((∃ K, records (args m) sw K ∗ hand (F := F) sw c) ∗ levAts L lv)

def dats (_ : Fin 1) (c : Dev nD) : Dat τ (Elt F) Unit ℕ UU ℕ cfg0 c where
  A w := m ((cfg0.win w).arr.view.loc (c : Thread nD τ))
  after w _ := match w with
    | ⟨0, _⟩ => args m c
    | ⟨1, _⟩ => tables m c
    | ⟨2, _⟩ => outAt (args m) sw c
  Φ t := match t with
    | ⟨0, _⟩ => start m sw c
    | ⟨_ + 1, _⟩ => closed (F := F) c
  q _ := fullShare
  owed t := match t with
    | ⟨0, _⟩ => owed c (dues sw)
    | ⟨_ + 1, _⟩ => 0

/-- A staging buffer of device `c` at contents `f`. -/
abbrev stg (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

omit [FloatOps F] in
theorem owns_stg (c : Dev nD) (b : Ref sig .tc) (f : b.ty.Contents (Elt F)) :
    (owns (Ix := Unit) (Name := ℕ) (U := UU) (Lvl := ℕ) (c : Thread nD τ) (Memref.whole b) fullShare f : sProp 𝕄) = stg c b f := by
  unfold owns; simp only [Memref.view_whole, View.read_whole, View.set_whole]

omit [FloatOps F] in
theorem windows (Φ : Fin cfg0.W → sProp 𝕄) : bigSep Finset.univ Φ = iprop(Φ (0 : Fin 3) ∗ Φ (1 : Fin 3) ∗ Φ (2 : Fin 3)) := bigSep_W0 Φ

/-- The argument's and the table's blocks are fetched before the body. -/
theorem before_x (c : Dev nD) (d) : (dats m sw 0 c).before (0 : Fin 3) t0_0 d = args m c := by
  unfold Dat.before; rw [if_pos (fetch0_0 t0_0)]
  exact read_x (args m c)
theorem before_p (c : Dev nD) (d) : (dats m sw 0 c).before (1 : Fin 3) t0_0 d = tables m c := by
  unfold Dat.before; rw [if_pos (fetch0_1 t0_0)]
  exact read_p (tables m c)

def bodyPre (c : Dev nD) : sProp 𝕄 :=
  iprop(start m sw c ∗ (dats m sw 0 c).owesAt () (t0_0 : Fin cfg0.N).castSucc
    ∗ (∃ d, stg c cc0_stg0_0 ((dats m sw 0 c).before (0 : Fin 3) t0_0 d))
    ∗ (∃ d, stg c cc0_stg1_0 ((dats m sw 0 c).before (1 : Fin 3) t0_0 d))
    ∗ (∃ d, stg c cc0_stg2_0 ((dats m sw 0 c).before (2 : Fin 3) t0_0 d)))
def bodyPost (c : Dev nD) : sProp 𝕄 :=
  iprop(closed (F := F) c ∗ (dats m sw 0 c).owesAt () (t0_0 : Fin cfg0.N).succ
    ∗ stg c cc0_stg0_0 (args m c) ∗ stg c cc0_stg1_0 (tables m c) ∗ stg c cc0_stg2_0 (outAt (args m) sw c))

/-- The body at the pipeline's one point. -/
theorem body_obligation (hp : ∀ c, Picks sw c (tables m c)) (c : Dev nD) :
    BodyObligation (dats m sw 0 c) (defs₀ (F := F)) 𝒱₀ () Set.univ := fun t => by
  rw [fin_N0 t, windows, windows]
  simp only [owns_stg]
  show bodyPre m sw c ⊢ wp frame (wpE (defs₀ (F := F)) 𝒱₀ c none) Set.univ theBody (fun _ => bodyPost m sw c)
  unfold bodyPre start
  simp only [before_x, before_p]
  iintro ⟨⟨⟨%K, #HR, Hh⟩, #Hlev⟩, Ho, ⟨%d₀, %fx, %ex, Hx⟩, ⟨%d₁, %fp, %ep, Hp⟩, ⟨%d₂, %fo, -, Hout⟩⟩
  subst ex ep
  iapply (sound_body (args m) K sw c (tables m c) (hp c) fo fun _ => bodyPost m sw c) $$ HR Hlev Hx Hp Hout Hh [Ho]
  · unfold Dat.owesAt Pipeline.owesWithin owing
    icases Ho with ⟨%W, -, Ho⟩
    iexists W; iexact Ho
  iintro ⟨Hx, Hp, Hout, Hz, HO⟩
  unfold bodyPost
  isplitl [Hz]; · iexact Hz
  isplitl [HO]
  · unfold Dat.owesAt Pipeline.owesWithin owing
    icases HO with ⟨%W, HO⟩
    iexists W; isplitr; · (ipureintro; exact fun _ _ => Or.inl trivial)
    iexact HO
  isplitl [Hx]
  · iexists _; isplitr; · (ipureintro; rfl)
    iexact Hx
  isplitl [Hp]
  · iexists _; isplitr; · (ipureintro; rfl)
    iexact Hp
  iexists _; isplitr; · (ipureintro; rfl)
  iexact Hout

theorem ownSemFacts : Pipeline.OwnSemFacts cfg0.spec osem := by decide

theorem share_eq (c : Dev nD) (w : Fin cfg0.W) : (dats m sw 0 c).share w = fullShare := by unfold Dat.share; split <;> rfl

omit [FloatOps F] in
/-- A device's places, duties and credits are the hand its body starts from. -/
theorem hand_intro (c : Dev nD) :
    iprop(own (F := F) c ∗ cred (tallyAt (barC c) () 3) ∗ (if sw then bigSep Finset.univ fun t => cred (tallyAt (recvC t c) () N) else iprop(emp)))
      ⊢ hand (F := F) sw c := by
  unfold own hand ready
  rw [cells_split, both, bigSep_sep', bigSep_sep']
  iintro ⟨⟨⟨HB, HS, HV⟩, HtB, HtS, HtV⟩, H3, HN⟩
  isplitl [HB]; · iexact HB
  isplitl [HtB]; · iexact HtB
  isplitl [HS HtS HtV]
  · isplitl [HS]; · iexact HS
    isplitl [HtS] <;> iassumption
  isplitl [HV]; · iexact HV
  isplitl [H3] <;> iassumption

theorem start_intro (c : Dev nD) :
    iprop(Pipeline.unscopedRestP Pipeline.Prefetch.none cfg0.spec c (fun b => m ((c : Thread nD τ).loc b)) ∗ levAts L lv
        ∗ Pipeline.launchCred (fun d => owed d (dues sw)) c ∗ prngReg c (ρ c) ∗ G' (args m) sw c)
      ⊢ |={Set.univ}=> iprop(start m sw c ∗ emp) := by
  iintro ⟨-, Hlev, Hcr, -, HG⟩
  ihave Hc := (creds (F := F) sw c) $$ Hcr
  imodintro
  unfold start G'
  icases HG with ⟨%K, HR, Hown⟩
  isplitl
  · isplitr [Hlev]
    · iexists K
      isplitl [HR]; · iexact HR
      iapply (hand_intro (F := F) sw c)
      isplitl [Hown] <;> iassumption
    iexact Hlev
  · iempintro

theorem phi_intro (c : Dev nD) :
    iprop(start m sw c ∗ Pipeline.prefHeld Pipeline.Prefetch.none c (fun _ => fullShare.right) (fun k => k.elim0) ∗ Pipeline.scopedRest cfg0.spec c)
      ⊢ (dats m sw 0 c).Φ 0 := by
  rw [show (dats m sw 0 c).Φ 0 = start m sw c from rfl]
  iintro ⟨Hs, -, -⟩
  iexact Hs

theorem phi_exit (c : Dev nD) :
    (dats m sw 0 c).Φ (Fin.last cfg0.N) ⊢ iprop(unscopedSems0 c ∗ Pipeline.ownSems0 osem c ∗ Pipeline.scopedRest cfg0.spec c) := by
  rw [show (dats m sw 0 c).Φ (Fin.last cfg0.N) = closed (F := F) c from rfl, scopedRest0_eq, unscoped_eq]
  unfold closed
  iintro ⟨HB, Hz⟩
  isplitl [HB]; · iexact HB
  isplitl [Hz]
  · iapply (show (bigSep Finset.univ fun k => semVal (kcell (c, .inr k)) 0) ⊢ sems0 (F := F) c from Entails.of_eq rfl)
    iexact Hz
  iempintro

theorem waits (c : Dev nD) : (levAts L lv : sProp 𝕄) ⊢ Pipeline.cellsWaits cfgs (dats m sw) () 0 c :=
  Pipeline.cellsWaits_intro cfgs (dats m sw) () 0 c fun w s t => by
    have hl : level (.dma ((cfg0.win w).sem s)) = 0 := by fin_cases w <;> fin_cases s <;> rfl
    rcases t with ⟨_ | _, ht⟩
    · refine mayWait c _ (dues sw) fun p hp => ?_
      rw [hl]; revert p; cases sw <;> decide
    · exact mayWait c _ [] fun p hp => nomatch hp

/-! ## The run -/

/-- What the arrays hold at the end. -/
def finalA (c : Dev nD) (w : Fin cfg0.W) : Buf (Elt F) ((cfg0.win w).arr.view.loc (c : Thread nD τ)) := (dats m sw 0 c).arrAt w cfg0.N

theorem finalA_x (c : Dev nD) : finalA m sw c (0 : Fin 3) = args m c := (dats m sw 0 c).arrAt_in (0 : Fin 3) rfl _
theorem finalA_p (c : Dev nD) : finalA m sw c (1 : Fin 3) = tables m c := (dats m sw 0 c).arrAt_in (1 : Fin 3) rfl _
/-- The result's array ends holding what the body left in its block. -/
theorem finalA_o (c : Dev nD) : finalA m sw c (2 : Fin 3) = outAt (args m) sw c :=
  (dats m sw 0 c).arrAt_eq_of_cover (2 : Fin 3) (outAt (args m) sw c)
    (fun t _ => by rw [fin_N0 t]; exact (read_o (outAt (args m) sw c)).symm)
    fun i => ⟨t0_0, flush0_2 _, by
      have h := (win0_2.blk t0_0).view.emb_mem_set i
      rw [emb_o i] at h
      exact h⟩

/-- What every execution ends in: the results at `outAt`, the arguments unchanged, every semaphore at zero. -/
def Ends (r : PUnit × MemSt nD τ sig (Elt F)) : Prop :=
  (∀ c : Dev nD, r.2.mem ((c : Thread nD τ).loc main_v1) = outAt (args m) sw c
    ∧ r.2.mem ((c : Thread nD τ).loc main_arg0) = m ((c : Thread nD τ).loc main_arg0)
    ∧ r.2.mem ((c : Thread nD τ).loc main_arg1) = m ((c : Thread nD τ).loc main_arg1))
  ∧ r.2.sem = fun _ => 0

set_option maxRecDepth 8000 in
/-- On the mesh of sixteen devices, for any float values, from any memory with zero counters in which every device's
    table sends it across x (or every one's back to itself): every weakly fair execution terminates, and ends so. -/
theorem run_main (hp : ∀ c, Picks sw c (tables m c)) : θ_run defs (onTc (τ := τ) (main (F := F))) ⟨m, fun _ => 0, ρ⟩ (Ends m sw) :=
  Pipeline.θ_run_region_owing_glob_pf (fun p => (cfgs p).toPCfg) (fun p => (cfgs p).toPCfg_adm) (dats m sw) () cellOf_inj (0 : Fin 1)
    winFacts0.to₀ ownSemFacts (Pipeline.PreFacts.none _) EP defs₀ 𝒱₀ m ρ main
    (hmain := fun _ => rfl)
    (hbody := body_obligation m sw hp) (hne := block_pos0) (harr := arr_whole0) (hstage := stage_whole0) (hshare := share_eq m sw)
    (hdistinct := winFacts0.arr_inj)
    (O₀ := fun d => owed d (dues sw)) (howed₀ := fun _ => rfl) (howedN := fun _ => rfl)
    (L := L) (lv := lv) (hL := L_of_ne) (hwaits := waits m sw)
    (G := G (args m) sw) (G' := G' (args m) sw) (u₀ := u₀)
    (hu₀ := by
      unfold u₀
      iintro Hu
      ihave H := (ownU_pair _ _) $$ Hu
      icases H with ⟨HP, HX⟩
      imod (fund_exchange (args m) sw) $$ HX with HG
      imodintro
      isplitl [HP] <;> iassumption)
    (hglob := glob (args m) sw)
    (hA := fun _ _ => rfl) (hpf := fun _ k => k.elim0)
    (X := start m sw) (Y := fun c => unscopedSems0 c) (Z := fun _ => iprop(emp))
    (hX := start_intro m ρ sw) (hin := phi_intro m sw) (hout := phi_exit m sw)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c => ⟨((h c).1 (2 : Fin 3)).trans (finalA_o m sw c), ((h c).1 (0 : Fin 3)).trans (finalA_x m sw c),
      ((h c).1 (1 : Fin 3)).trans (finalA_p m sw c)⟩, sem_eq_zero hs fun c => (h c).2.2⟩)

end Launch

end Cert.Exchange

end
-- ==== Proof.Value.lean ====
/-
# The value: the kernel's result is its block of the reference's

The reference sorts the positions of the table and gathers the two halves of its argument in that order: it exchanges
them when the table's second entry is less than its first. On the mesh, device `c` holds half `c / 8` of an array and
looks up that entry of the table, and what the run leaves on it is the half the order names.
-/
module

public import proofs.«01_k».proof.Defs
public import proofs.«01_k».proof.Proof.Gen.Kernel
public import proofs.«01_k».proof.Proof.Gen.ReferenceIdeal.Run
public import proofs.«01_k».proof.Proof.Gen.Pre_moves
public import proofs.«01_k».proof.Proof.Gen.Pre_swaps_KernelIdeal
public import proofs.«01_k».proof.Proof.Gen.Pre_stays_Kernel
public import proofs.«01_k».proof.Proof.Run
public import Idealize.ShloMosaic.Lib.WordCmp
public import Idealize.ShloMosaic.Lib.Layout

@[expose] public section

noncomputable section

namespace Cert.Exchange

open Idealize.ShloMosaic
open Idealize.ShloMosaic.TcCoe
open Idealize.SL.Sem

/-! ## Tables -/

/-- A table of two words. -/
abbrev Table : Type := (⟨1, ![2]⟩ : Shape).Idx → BitVec 32
/-- The place of entry `j`. -/
def place (j : Fin 2) : (⟨1, ![2]⟩ : Shape).Idx := fun a => match a with
  | ⟨0, _⟩ => j

/-- A table moves both halves, when `sw`: it names for neither its own place. Otherwise it leaves both: it names for each
    its own place. -/
def Goes (sw : Bool) (p : Table) : Prop :=
  ∀ j : Fin 2, if sw then p (place j) ≠ BitVec.ofNat 32 j.val else p (place j) = BitVec.ofNat 32 j.val

/-- The table's order is the exchange of its two positions. -/
def turns (p : Table) : Bool := decide ((p (place 1)).toInt < (p (place 0)).toInt)

/-- The one place of a table of one word. -/
def only : (⟨1, ![1]⟩ : Shape).Idx := fun a => match a with
  | ⟨0, _⟩ => (0 : Fin 1)

/-- One entry of a table, sliced off and reshaped to a scalar. -/
theorem entry (p : Table) (off : Fin 2) (h : (⟨1, ![2]⟩ : Shape).Slices ![off.val] ⟨1, ![1]⟩)
    (h' : (⟨1, ![1]⟩ : Shape).ShapeCasts ⟨0, ![]⟩) (i : (⟨0, ![]⟩ : Shape).Idx) :
    shapeCast ⟨0, ![]⟩ (extractStridedSlice ⟨1, ![1]⟩ ![off.val] p h) h' i = p (place off) := by
  rw [shapeCast_apply _ h' i only (by
    have h1 := ((⟨0, ![]⟩ : Shape).rowMajor i).isLt
    have h2 := ((⟨1, ![1]⟩ : Shape).rowMajor only).isLt
    have e1 : (⟨0, ![]⟩ : Shape).numel = 1 := by decide
    have e2 : (⟨1, ![1]⟩ : Shape).numel = 1 := by decide
    omega)]
  exact extractStridedSlice_apply _ p h _ _ fun a => by
    match a with
    | ⟨0, _⟩ => rfl

/-- Both of two truth words are one when their conjunction is. -/
theorem both_one {x y : BitVec 1} (h : IntOp.andi x y = 1#1) : x = 1#1 ∧ y = 1#1 := by
  rcases BitVec.eq_zero_or_eq_one x with rfl | rfl
  · rcases BitVec.eq_zero_or_eq_one y with rfl | rfl <;> exact absurd h (by decide)
  · rcases BitVec.eq_zero_or_eq_one y with rfl | rfl
    · exact absurd h (by decide)
    · exact ⟨rfl, rfl⟩

/-- One entry of a table, as the preconditions look it up. -/
abbrev look (p : Table) (off : Fin 2) (h : (⟨1, ![2]⟩ : Shape).Slices ![off.val] ⟨1, ![1]⟩)
    (h' : (⟨1, ![1]⟩ : Shape).ShapeCasts ⟨0, ![]⟩) (i : (⟨0, ![]⟩ : Shape).Idx) : BitVec 32 :=
  shapeCast ⟨0, ![]⟩ (extractStridedSlice ⟨1, ![1]⟩ ![off.val] p h) h' i

/-- What a comparison of entries says when it comes out true. -/
theorem eq_one {p : Table} {y : BitVec 32} (j : Fin 2) (h h' i) (hc : IntOp.cmpi .eq (look p j h h' i) y = 1#1) : p (place j) = y := by
  rw [← entry p j h h' i]
  exact (WordCmp.ofBool_decide_eq_one_iff _).1 ((WordCmp.cmpi_eq_eq _ y).symm.trans hc)
theorem ne_one {p : Table} {y : BitVec 32} (j : Fin 2) (h h' i) (hc : IntOp.cmpi .ne (look p j h h' i) y = 1#1) : p (place j) ≠ y := by
  rw [← entry p j h h' i]
  exact (WordCmp.ofBool_decide_eq_one_iff _).1 ((WordCmp.cmpi_ne_eq _ y).symm.trans hc)
theorem gt_one {p : Table} (j k : Fin 2) (h h' i g g' l) (hc : IntOp.cmpi .sgt (look p j h h' i) (look p k g g' l) = 1#1) :
    (p (place k)).toInt < (p (place j)).toInt := by
  rw [← entry p j h h' i, ← entry p k g g' l]
  exact (WordCmp.ofBool_decide_eq_one_iff _).1 ((WordCmp.cmpi_sgt_eq _ _).symm.trans hc)

/-- A statement on both places is one on each. -/
theorem both_places {P : Fin 2 → Prop} (h0 : P 0) (h1 : P 1) (j : Fin 2) : P j := by
  fin_cases j
  · exact h0
  · exact h1

/-- What the preconditions say of a table. -/
theorem of_moves {F : FTy → Type} [FloatOps F] (x : FVec F ⟨3, ![1, 1024, 1024]⟩ .f32) (p : Table)
    (h : Cert.Pre_moves.fn (F := F) x p = fun _ => 1#1) : Goes true p := by
  have h0 := both_one (congrFun h fun a => a.elim0)
  refine both_places ?_ ?_
  · exact ne_one 0 _ _ _ h0.1
  · exact ne_one 1 _ _ _ h0.2
theorem of_swaps {F : FTy → Type} [FloatOps F] (x : FVec F ⟨3, ![1, 1024, 1024]⟩ .f32) (p : Table)
    (h : Cert.Pre_swaps_KernelIdeal.fn (F := F) x p = fun _ => 1#1) : Goes true p ∧ turns p = true := by
  have h0 := both_one (congrFun h fun a => a.elim0)
  have h1 := both_one h0.1
  refine ⟨both_places ?_ ?_, decide_eq_true ?_⟩
  · exact ne_one 0 _ _ _ h1.1
  · exact ne_one 1 _ _ _ h1.2
  · exact gt_one 0 1 _ _ _ _ _ _ h0.2
theorem of_stays {F : FTy → Type} [FloatOps F] (x : FVec F ⟨3, ![1, 1024, 1024]⟩ .f32) (p : Table)
    (h : Cert.Pre_stays_Kernel.fn (F := F) x p = fun _ => 1#1) : Goes false p := by
  have h0 := both_one (congrFun h fun a => a.elim0)
  refine both_places ?_ ?_
  · exact eq_one 0 _ _ _ h0.1
  · exact eq_one 1 _ _ _ h0.2
/-- The table that leaves both halves is in order already. -/
theorem stays_turns (p : Table) (h : Goes false p) : turns p = false := by
  have h0 : p (place 0) = 0#32 := h 0
  have h1 : p (place 1) = 1#32 := h 1
  unfold turns; rw [h0, h1]; decide

/-! ## The kernel's lookup -/

section Lookup

open Cert.KernelIdeal Cert.KernelIdeal.Gen

/-- The half of an array device `c` holds. -/
def half (c : Dev nD) : Fin 2 := ⟨c.val / 8, by have := c.isLt; change c.val < 16 at this; omega⟩

theorem off1_half (c : Dev nD) : k0_off1 c 0 = (half c).val := by revert c; decide +kernel
theorem xWord_half (c : Dev nD) : xWord c = BitVec.ofNat 32 (half c).val := by revert c; decide +kernel

/-- A device looks up its own half's entry. -/
theorem picked_half {F : FTy → Type} (c : Dev nD) (p : Table) : picked (F := F) c p = p (place (half c)) := by
  unfold picked
  refine congrArg p (funext fun a => Fin.ext ?_)
  match a with
  | ⟨0, _⟩ =>
    refine Eq.trans ?_ (off1_half c)
    show k0_off1 c 0 + 1 * 0 = _
    omega

/-- A table that moves both halves sends every device across x, one that leaves them none. -/
theorem picks {F : FTy → Type} (sw : Bool) (c : Dev nD) (p : Table) (h : Goes sw p) : Picks (F := F) sw c p := by
  unfold Picks
  rw [picked_half, xWord_half]
  exact h (half c)

end Lookup

/-! ## The reference -/

section Reference

open Cert.ReferenceIdeal Cert.ReferenceIdeal.Gen

/-- The half the reference puts in place `j`. -/
def other (sw : Bool) (j : Fin 2) : Fin 2 := if sw then 1 - j else j

/-- The positions of the table in sorted order, as the reference computes and corrects them. -/
def order (p : Table) : IVec S2x1 32 :=
  broadcastInDim S2x1 ![0] bcast_S2_S2x1_0 (select (cmpi .slt ((Host.sort2 S2 0 comparator_i32_i32_d0 p (iotaInDim S2 32 0)).2) (broadcastInDim S2 ![] bcast_S_S2 (constantI S_ 32 0#32)))
    (addi ((Host.sort2 S2 0 comparator_i32_i32_d0 p (iotaInDim S2 32 0)).2) (broadcastInDim S2 ![] bcast_S_S2 (constantI S_ 32 2#32)))
    ((Host.sort2 S2 0 comparator_i32_i32_d0 p (iotaInDim S2 32 0)).2))

/-- Two positions are sorted by asking whether the second goes before the first. -/
theorem sorted_two (b : Fin 2 → Fin 2 → Bool) (j : Fin 2) : sortedFrom b j = other (b 1 0) j := by
  have e : sortPositions 2 b = if b 1 0 then [1, 0] else [0, 1] := by
    show (if b 1 0 then 1 :: [0] else [0, 1]) = _
    rfl
  have f (l : List (Fin 2)) (sw : Bool) (h : sortPositions 2 b = l) (hl : l = if sw then [1, 0] else [0, 1]) :
      sortedFrom b j = other sw j := by
    unfold sortedFrom
    rw [List.get_eq_getElem]
    simp only [h, hl]
    cases sw <;> fin_cases j <;> rfl
  exact f _ (b 1 0) e rfl

/-- The position the sort puts at a place. -/
theorem sorted_at (p : Table) (i : S2.Idx) :
    (Host.sort2 S2 0 comparator_i32_i32_d0 p (iotaInDim S2 32 0)).2 i = BitVec.ofNat 32 (other (turns p) (i 0)).val := by
  have e (k : Fin 2) : i.along (0 : Fin 1) k = place k := funext fun a => by
    match a with
    | ⟨0, _⟩ => rfl
  refine (congrArg (fun k : Fin 2 => BitVec.ofNat 32 k.val) (sorted_two (fun k k' =>
    comparator_i32_i32_d0 (p (i.along (0 : Fin 1) k), iotaInDim S2 32 0 (i.along (0 : Fin 1) k))
      (p (i.along (0 : Fin 1) k'), iotaInDim S2 32 0 (i.along (0 : Fin 1) k')) == 1#1) (i 0))).trans ?_
  refine congrArg (fun b => BitVec.ofNat 32 (other b (i 0)).val) ?_
  show (IntOp.cmpi .slt (p (i.along (0 : Fin 1) (1 : Fin 2))) (p (i.along (0 : Fin 1) (0 : Fin 2))) == 1#1) = turns p
  rw [e, e, WordCmp.cmpi_slt_eq]
  unfold turns
  cases decide ((p (place 1)).toInt < (p (place 0)).toInt) <;> rfl

/-- The reference's order: the positions exchanged when the table's order is the exchange, left alone otherwise. -/
theorem order_eq (p : Table) (i : S2x1.Idx) : order p i = BitVec.ofNat 32 (other (turns p) (i 0)).val := by
  have e : ∀ j : Fin 2, Scalar.select (IntOp.cmpi .slt (BitVec.ofNat 32 j.val) 0#32) (IntOp.addi (BitVec.ofNat 32 j.val) 2#32) (BitVec.ofNat 32 j.val)
      = BitVec.ofNat 32 j.val := by decide
  show Scalar.select (IntOp.cmpi .slt ((Host.sort2 S2 0 comparator_i32_i32_d0 p (iotaInDim S2 32 0)).2 _) 0#32)
    (IntOp.addi ((Host.sort2 S2 0 comparator_i32_i32_d0 p (iotaInDim S2 32 0)).2 _) 2#32) ((Host.sort2 S2 0 comparator_i32_i32_d0 p (iotaInDim S2 32 0)).2 _) = _
  rw [sorted_at, e]
  rfl

/-- The whole-array index of half `j` at the rows and columns of `y`. -/
def put (j : Fin 2) (y : S2x1024x1024.Idx) : S2x1024x1024.Idx := fun a => match a with
  | ⟨0, _⟩ => j
  | ⟨1, _⟩ => y 1
  | ⟨2, _⟩ => y 2

/-- The place of the start index that the gather reads for `y`. -/
def startAt (y : S2x1024x1024.Idx) : S2x1.Idx := fun a => match a with
  | ⟨0, _⟩ => y 0
  | ⟨1, _⟩ => (0 : Fin 1)

/-- The gather takes, for place `y 0`, the half its start index names. -/
theorem gather_half {α : Type} (x : S2x1024x1024.Idx → α) (s : IVec S2x1 32) (y : S2x1024x1024.Idx) (j : Fin 2)
    (h : s (startAt y) = BitVec.ofNat 32 j.val) :
    Host.gather gather_S2x1024x1024_S2x1_S2x1024x1024_12_0_n_n_0_1_110241024 x s y = x (put j y) := by
  unfold Host.gather
  congr 1
  funext a
  refine Fin.ext ?_
  show GatherDims.start _ y s a + GatherDims.batchCoord _ y a + GatherDims.offCoord _ y a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    refine (dif_pos (show (0 : Fin 3) ∈ [(0 : Fin 3)] from List.mem_singleton.mpr rfl)).trans ?_
    have e (q) : gather_S2x1024x1024_S2x1_S2x1024x1024_12_0_n_n_0_1_110241024.siIdx y ⟨List.idxOf (0 : Fin 3) [(0 : Fin 3)], q⟩ = startAt y := by
      funext b; refine Fin.ext ?_
      match b with
      | ⟨0, _⟩ => rfl
      | ⟨1, _⟩ => rfl
    refine (congrArg (fun t => min (s t).toInt.toNat 1) (e _)).trans ?_
    show min (s (startAt y)).toInt.toNat 1 = j.val
    rw [h]
    clear h; revert j; decide
  | ⟨1, _⟩ =>
    exact (congrArg (· + _) (dif_neg (show (1 : Fin 3) ∉ [(0 : Fin 3)] by decide))).trans (Nat.zero_add _)
  | ⟨2, _⟩ =>
    exact (congrArg (· + _) (dif_neg (show (2 : Fin 3) ∉ [(0 : Fin 3)] by decide))).trans (Nat.zero_add _)

/-- The reference's result is its argument with the halves in that order. -/
theorem reference_eq {α : Type} (p : Table) (x : S2x1024x1024.Idx → α) (y : S2x1024x1024.Idx) :
    Host.gather gather_S2x1024x1024_S2x1_S2x1024x1024_12_0_n_n_0_1_110241024 x (order p) y = x (put (other (turns p) (y 0)) y) :=
  gather_half x _ y _ (order_eq p _)

end Reference

/-! ## Device `c`'s block -/

section Block

open Cert.KernelIdeal Cert.KernelIdeal.Gen

/-- An index of half `j`, in the whole array. -/
def inHalf (j : Fin 2) (i : S1x1024x1024.Idx) : (⟨3, ![2, 1024, 1024]⟩ : Shape).Idx := fun a => match a with
  | ⟨0, _⟩ => j
  | ⟨1, _⟩ => i 1
  | ⟨2, _⟩ => i 2

theorem block_coord (c : Dev nD) : (Layout.meshLin [2, 2, 4] c.val [0]) = (half c).val := by revert c; decide +kernel

/-- Device `c`'s block of an array is half `c / 8`. -/
theorem block_half {α : Type} (c : Dev nD) (v : (⟨3, ![2, 1024, 1024]⟩ : Shape).Idx → α) (i : S1x1024x1024.Idx) :
    Layout.blockN ⟨3, ![1, 1024, 1024]⟩ ⟨3, ![2, 1024, 1024]⟩ (Layout.meshBlock [2, 2, 4] ![[0], [], []] c) v (by decide) i = v (inHalf (half c) i) := by
  rw [Layout.blockN_apply]
  refine congrArg v (funext fun a => Fin.ext ?_)
  rw [Layout.TilesN.idx_val]
  have h0 : (i 0).val < 1 := (i 0).isLt
  fin_cases a
  · show Layout.meshLin [2, 2, 4] c.val [0] * 1 + (i 0).val = (half c).val
    rw [block_coord]; omega
  · show 0 * 1024 + (i 1).val = (i 1).val; omega
  · show 0 * 1024 + (i 2).val = (i 2).val; omega

/-- A chunk comes from the other half. -/
theorem half_src (c : Dev nD) (q : Fin 16) : half (srcDev c q) = other true (half c) := by revert c q; decide +kernel

/-- The run's result on device `c`, from devices that hold their blocks of `x`, is its block of `x` with the halves in
    the reference's order. -/
theorem outAt_block {F : FTy → Type} (sw : Bool) (X : Dev nD → Arr F) (x : (⟨3, ![2, 1024, 1024]⟩ : Shape).Idx → Elt F .f32)
    (hX : ∀ c, X c = Layout.blockN ⟨3, ![1, 1024, 1024]⟩ ⟨3, ![2, 1024, 1024]⟩ (Layout.meshBlock [2, 2, 4] ![[0], [], []] c) x (by decide)) (c : Dev nD) :
    outAt X sw c = Layout.blockN ⟨3, ![1, 1024, 1024]⟩ ⟨3, ![2, 1024, 1024]⟩ (Layout.meshBlock [2, 2, 4] ![[0], [], []] c)
      (fun y => x (put (other sw (y 0)) y)) (by decide) := by
  funext i
  rw [block_half]
  have e (j : Fin 2) : put j (inHalf (half c) i) = inHalf j i := funext fun a => by fin_cases a <;> rfl
  show _ = x (put (other sw (half c)) (inHalf (half c) i))
  rw [e]
  unfold outAt
  cases sw
  · rw [if_neg Bool.false_ne_true, hX, block_half]; rfl
  · rw [if_pos rfl, hX, block_half, half_src]

end Block

end Cert.Exchange

end
-- ==== Proof.lean ====
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.Pre_moves
public import proofs.«01_k».proof.Proof.Gen.Pre_swaps_KernelIdeal
public import proofs.«01_k».proof.Proof.Gen.Pre_swaps_ReferenceIdeal
public import proofs.«01_k».proof.Proof.Gen.Pre_stays_Kernel
public import proofs.«01_k».proof.Proof.Gen.Pre_stays_ReferenceIdeal
public import proofs.«01_k».proof.Proof.Run
public import proofs.«01_k».proof.Proof.Value

@[expose] public section

noncomputable section

namespace Cert.Proof

open Idealize.ShloMosaic Idealize.SL.Sem

open Cert.Exchange

/-- The kernel's frame, when every device's table moves both halves, or every device's leaves both: it terminates without
    a fault, its arguments end unchanged and every counter ends at zero. -/
theorem frame {F : FTy → Type} [FloatOps F] (sw : Bool)
    (m : (ℓ : Loc Cert.KernelIdeal.nD Cert.KernelIdeal.τ Cert.KernelIdeal.sig) → Buf (Elt F) ℓ) (g : Dev Cert.KernelIdeal.nD → PrngReg)
    (hp : ∀ c, Goes sw (tables m c)) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun _ h => ⟨fun c => (h.1 c).2, h.2⟩) (run_main m g sw fun c => picks sw c _ (hp c))

/-- The reference's frame: it has no semaphore, so the counters are no condition. -/
theorem frame_reference : Cert.quiescent_ReferenceIdeal := fun m g _ =>
  (θ_run _ _ _).mono (fun _ h => ⟨fun c => (h c).2, funext fun s => by
    obtain ⟨_, s⟩ := s
    cases s with
    | reg s => exact s.elim0
    | dma s => exact s.elim0⟩) (Cert.ReferenceIdeal.Value.run m g)

/-- The values, when every device's table moves both halves and its order is the exchange, or every device's leaves both,
    and the devices hold their parts of the reference's arguments: each device's result is its block of the reference's, and the arguments of both end unchanged. -/
theorem value (sw : Bool)
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hp : ∀ c, Goes sw (tables m c)) (ht : ∀ c, turns (tables m c) = sw)
    (hm : ∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![2, 1024, 1024]⟩ (Layout.meshBlock [2, 2, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have htab : m' (((0 : Dev Cert.ReferenceIdeal.nD).tc : Thread Cert.ReferenceIdeal.nD Cert.ReferenceIdeal.τ).loc Cert.ReferenceIdeal.main_arg1) = tables m 0 := (hm 0).2.symm
  refine ⟨fun y => m' (((0 : Dev Cert.ReferenceIdeal.nD).tc : Thread Cert.ReferenceIdeal.nD Cert.ReferenceIdeal.τ).loc Cert.ReferenceIdeal.main_arg0) (put (other sw (y 0)) y), ?_, ?_⟩
  · exact (θ_run _ _ _).mono
      (fun _ h c => ⟨(h.1 c).1.trans (outAt_block sw (args m) _ (fun c => (hm c).1) c), (h.1 c).2⟩)
      (run_main m g sw fun c => picks sw c _ (hp c))
  · refine (θ_run _ _ _).mono (fun _ h => ⟨(h 0).1.trans ?_, (h 0).2⟩) (Cert.ReferenceIdeal.Value.run m' g')
    rw [htab]
    refine funext fun y => (reference_eq _ _ y).trans ?_
    rw [ht 0]

/-- The real kernel's body table is the ideal kernel's text, read at words. -/
theorem kernel_defs : Cert.Kernel.defs (F := Bits) = Cert.KernelIdeal.defs (F := Bits) :=
  congrArg (Pipeline.defs _) (congrArg Defs.onTc (funext fun
    | 0 => funext fun (_, _) => rfl
    | ⟨_ + 1, h⟩ => absurd h (Nat.not_lt.2 (Nat.le_add_left _ _))))

/-- The frames of the kernel, -/
theorem frame_kernel : Cert.quiescent_Kernel := fun m g h => by
  rw [kernel_defs]
  exact frame (F := Bits) true m g fun c => of_moves _ _ (h c)
theorem frame_kernel_stays : Cert.quiescent_Kernel_pre_stays_Kernel := fun m g h => by
  rw [kernel_defs]
  exact frame (F := Bits) false m g fun c => of_stays _ _ (h c)
/-- those of its ideal form, -/
theorem frame_ideal : Cert.quiescent_KernelIdeal := fun m g h => frame (F := Ideal) true m g fun c => of_moves _ _ (h c)
theorem frame_ideal_swaps : Cert.quiescent_KernelIdeal_pre_swaps_KernelIdeal := fun m g h =>
  frame (F := Ideal) true m g fun c => (of_swaps _ _ (h c)).1
theorem frame_ideal_stays : Cert.quiescent_KernelIdeal_pre_stays_Kernel := fun m g h =>
  frame (F := Ideal) false m g fun c => of_stays _ _ (h c)
/-- and the values. -/
theorem value_swaps : Cert.algebraic_KernelIdeal_ReferenceIdeal_pre_swaps_KernelIdeal := fun m g m' g' h hm =>
  value true m g m' g' (fun c => (of_swaps _ _ (h c)).1) (fun c => (of_swaps _ _ (h c)).2) hm
theorem value_stays : Cert.algebraic_KernelIdeal_ReferenceIdeal_pre_stays_Kernel := fun m g m' g' h hm =>
  value false m g m' g' (fun c => of_stays _ _ (h c)) (fun c => stays_turns _ (of_stays _ _ (h c))) hm

/-- Everything the certificate claims. -/
theorem claim : Cert.Claim := ⟨Cert.Kernel.Gen.facts, Cert.KernelIdeal.Gen.facts, Cert.ReferenceIdeal.Gen.facts, Cert.Pre_moves.Gen.facts,
  Cert.Pre_stays_Kernel.Gen.facts, Cert.Pre_swaps_KernelIdeal.Gen.facts, Cert.Pre_swaps_ReferenceIdeal.Gen.facts, Cert.Pre_stays_ReferenceIdeal.Gen.facts,
  frame_kernel, frame_kernel_stays, frame_ideal, frame_ideal_stays, frame_ideal_swaps, frame_reference,
  fun m g _ => frame_reference m g trivial, fun m g _ => frame_reference m g trivial, trivial, value_swaps, value_stays⟩

end Cert.Proof

end
